-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "scale_log2e" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20_1)) (v1 : (c : Dev Cert.Kernel2Ideal.nD) → Buf (Elt Ideal) ((c.tc : Thread Cert.Kernel2Ideal.nD Cert.Kernel2Ideal.τ).loc Cert.Kernel2Ideal.main_v20_5)) (v2 : (c : Dev Cert.Kernel2Ideal.nD) → Buf (Elt Ideal) ((c.tc : Thread Cert.Kernel2Ideal.nD Cert.Kernel2Ideal.τ).loc Cert.Kernel2Ideal.main_v20_9)) (v3 : (c : Dev Cert.Kernel2Ideal.nD) → Buf (Elt Ideal) ((c.tc : Thread Cert.Kernel2Ideal.nD Cert.Kernel2Ideal.τ).loc Cert.Kernel2Ideal.main_v20_10)) (v4 : (c : Dev Cert.Kernel2Ideal.nD) → Buf (Elt Ideal) ((c.tc : Thread Cert.Kernel2Ideal.nD Cert.Kernel2Ideal.τ).loc Cert.Kernel2Ideal.main_v20_0)) (v5 : (c : Dev Cert.Kernel2Ideal.nD) → Buf (Elt Ideal) ((c.tc : Thread Cert.Kernel2Ideal.nD Cert.Kernel2Ideal.τ).loc Cert.Kernel2Ideal.main_v20_4)) (v6 : (c : Dev Cert.Kernel2Ideal.nD) → Buf (Elt Ideal) ((c.tc : Thread Cert.Kernel2Ideal.nD Cert.Kernel2Ideal.τ).loc Cert.Kernel2Ideal.main_v20_8)) (v7 : (c : Dev Cert.Kernel2Ideal.nD) → Buf (Elt Ideal) ((c.tc : Thread Cert.Kernel2Ideal.nD Cert.Kernel2Ideal.τ).loc Cert.Kernel2Ideal.main_v20_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_1) = v0 c
          ∧ r.2.mem ((c.tc : Thread Cert.Kernel2Ideal.nD Cert.Kernel2Ideal.τ).loc Cert.Kernel2Ideal.main_v20_5) = v1 c
          ∧ r.2.mem ((c.tc : Thread Cert.Kernel2Ideal.nD Cert.Kernel2Ideal.τ).loc Cert.Kernel2Ideal.main_v20_9) = v2 c
          ∧ r.2.mem ((c.tc : Thread Cert.Kernel2Ideal.nD Cert.Kernel2Ideal.τ).loc Cert.Kernel2Ideal.main_v20_10) = v3 c
          ∧ r.2.mem ((c.tc : Thread Cert.Kernel2Ideal.nD Cert.Kernel2Ideal.τ).loc Cert.Kernel2Ideal.main_v20_0) = v4 c
          ∧ r.2.mem ((c.tc : Thread Cert.Kernel2Ideal.nD Cert.Kernel2Ideal.τ).loc Cert.Kernel2Ideal.main_v20_4) = v5 c
          ∧ r.2.mem ((c.tc : Thread Cert.Kernel2Ideal.nD Cert.Kernel2Ideal.τ).loc Cert.Kernel2Ideal.main_v20_8) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_v47) = v3 c
          ∧ r.2.mem ((c.tc : Thread Cert.Reference2Ideal.nD Cert.Reference2Ideal.τ).loc Cert.Reference2Ideal.main_v53) = v4 c
          ∧ r.2.mem ((c.tc : Thread Cert.Reference2Ideal.nD Cert.Reference2Ideal.τ).loc Cert.Reference2Ideal.main_v57) = v5 c
          ∧ r.2.mem ((c.tc : Thread Cert.Reference2Ideal.nD Cert.Reference2Ideal.τ).loc Cert.Reference2Ideal.main_v63) = v6 c
          ∧ r.2.mem ((c.tc : Thread Cert.Reference2Ideal.nD Cert.Reference2Ideal.τ).loc Cert.Reference2Ideal.main_v67) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
-- ==== Pre_finite_logits.lean ====
abbrev S8x4096x4x2x64 : Shape := ⟨5, ![8, 4096, 4, 2, 64]⟩
abbrev S8x4096x4x128 : Shape := ⟨4, ![8, 4096, 4, 128]⟩
abbrev S32x16 : Shape := ⟨2, ![32, 16]⟩
abbrev S1x64 : Shape := ⟨2, ![1, 64]⟩
abbrev S1x128 : Shape := ⟨2, ![1, 128]⟩
abbrev S_ : Shape := ⟨0, ![]⟩
abbrev S32x8 : Shape := ⟨2, ![32, 8]⟩

class Facts : Prop where
  bcast_S_S8x4096x4x2x64 : S_.BroadcastsInDim S8x4096x4x2x64 (![] : Fin 0 → Fin S8x4096x4x2x64.rank)
  reducesTo_S8x4096x4x2x64_S_d0_1_2_3_4 : S8x4096x4x2x64.ReducesTo [0, 1, 2, 3, 4] S_
  h_S_ : 0 < S_.numel
  slices_S32x16_S32x8_0_8 : S32x16.Slices ![0, 8] S32x8
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S8x4096x4x2x64 .f32) (main_arg1 : FVec F S8x4096x4x2x64 .f32) (main_arg2 : FVec F S8x4096x4x128 .f32) (main_arg3 : FVec F S32x16 .f32) (main_arg4 : FVec F S1x64 .f32) (main_arg5 : FVec F S1x64 .f32) (main_arg6 : FVec F S1x64 .f32) (main_arg7 : FVec F S1x64 .f32) (main_arg8 : FVec F S1x128 .f32) : IVec S_ 1 :=
  let main_v0 : FVec F S8x4096x4x2x64 .f32 := Host.absf main_arg0
  let main_cst : FVec F S_ .f32 := constant S_ .f32 0x7F800000#32
  let main_v1 : FVec F S8x4096x4x2x64 .f32 := broadcastInDim S8x4096x4x2x64 ![] bcast_S_S8x4096x4x2x64 main_cst
  let main_v2 : IVec S8x4096x4x2x64 1 := cmpf .olt main_v0 main_v1
  let main_c : IVec S_ 1 := constantI S_ 1 1#1
  let main_v3 : IVec S_ 1 := (fun x v => Host.reduce IntOp.andi x v reducesTo_S8x4096x4x2x64_S_d0_1_2_3_4 h_S_) main_v2 main_c
  let main_v4 : FVec F S8x4096x4x2x64 .f32 := Host.absf main_arg1
  let main_cst_0 : FVec F S_ .f32 := constant S_ .f32 0x7F800000#32
  let main_v5 : FVec F S8x4096x4x2x64 .f32 := broadcastInDim S8x4096x4x2x64 ![] bcast_S_S8x4096x4x2x64 main_cst_0
  let main_v6 : IVec S8x4096x4x2x64 1 := cmpf .olt main_v4 main_v5
  let main_c_1 : IVec S_ 1 := constantI S_ 1 1#1
  let main_v7 : IVec S_ 1 := (fun x v => Host.reduce IntOp.andi x v reducesTo_S8x4096x4x2x64_S_d0_1_2_3_4 h_S_) main_v6 main_c_1
  let main_v8 : IVec S_ 1 := andi main_v3 main_v7
  let main_v9 : FVec F S32x8 .f32 := (extractStridedSlice S32x8 ![0, 8] · slices_S32x16_S32x8_0_8) main_arg3
  let main_v10 : FVec F S32x8 .f32 := Host.absf main_v9
  let main_cst_2 : FVec F S_ .f32 := constant S_ .f32 0x7F800000#32
  let main_v11 : FVec F S32x8 .f32 := broadcastInDim S32x8 ![] bcast_S_S32x8 main_cst_2
  let main_v12 : IVec S32x8 1 := cmpf .olt main_v10 main_v11
  let main_c_3 : IVec S_ 1 := constantI S_ 1 1#1
  let main_v13 : IVec S_ 1 := (fun x v => Host.reduce IntOp.andi x v reducesTo_S32x8_S_d0_1 h_S_) main_v12 main_c_3
  let main_v14 : IVec S_ 1 := andi main_v8 main_v13
  main_v14
-- ==== Kernel.lean ====
abbrev S8x4096x4x2x64 : Shape := ⟨5, ![8, 4096, 4, 2, 64]⟩
abbrev S8x4096x4x128 : Shape := ⟨4, ![8, 4096, 4, 128]⟩
abbrev S32x16 : Shape := ⟨2, ![32, 16]⟩
abbrev S1x64 : Shape := ⟨2, ![1, 64]⟩
abbrev S1x128 : Shape := ⟨2, ![1, 128]⟩
abbrev S32x8 : Shape := ⟨2, ![32, 8]⟩
abbrev S64 : Shape := ⟨1, ![64]⟩
abbrev S_ : Shape := ⟨0, ![]⟩
abbrev S1 : Shape := ⟨1, ![1]⟩
abbrev S128 : Shape := ⟨1, ![128]⟩
abbrev S32768x512 : Shape := ⟨2, ![32768, 512]⟩
abbrev S128x256x512 : Shape := ⟨3, ![128, 256, 512]⟩
abbrev S128x512x256 : Shape := ⟨3, ![128, 512, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S256x256x1 : Shape := ⟨3, ![256, 256, 1]⟩
abbrev S1x1x32 : Shape := ⟨3, ![1, 1, 32]⟩
abbrev S256x256x32 : Shape := ⟨3, ![256, 256, 32]⟩
abbrev S256x256x8 : Shape := ⟨3, ![256, 256, 8]⟩
abbrev S8x256x256 : Shape := ⟨3, ![8, 256, 256]⟩
abbrev S1x256x256 : Shape := ⟨3, ![1, 256, 256]⟩
abbrev S1x8x256x256 : Shape := ⟨4, ![1, 8, 256, 256]⟩
abbrev S3x8x256x256 : Shape := ⟨4, ![3, 8, 256, 256]⟩
abbrev S256x512 : Shape := ⟨2, ![256, 512]⟩
abbrev S4096x512 : Shape := ⟨2, ![4096, 512]⟩
abbrev S16x512x256 : Shape := ⟨3, ![16, 512, 256]⟩
abbrev S8x256x128 : Shape := ⟨3, ![8, 256, 128]⟩
abbrev S8x1x256 : Shape := ⟨3, ![8, 1, 256]⟩
abbrev S8x128x256 : Shape := ⟨3, ![8, 128, 256]⟩
abbrev S256x128 : Shape := ⟨2, ![256, 128]⟩
abbrev S1x256x128 : Shape := ⟨3, ![1, 256, 128]⟩
abbrev S128x128 : Shape := ⟨2, ![128, 128]⟩
abbrev S1x128x128 : Shape := ⟨3, ![1, 128, 128]⟩
abbrev S128x256 : Shape := ⟨2, ![128, 256]⟩
abbrev S1x1x128x256 : Shape := ⟨4, ![1, 1, 128, 256]⟩
abbrev S1x1x256 : Shape := ⟨3, ![1, 1, 256]⟩
abbrev S1x128x256 : Shape := ⟨3, ![1, 128, 256]⟩

abbrev nBuf : Space → Nat
  | .hbm => 196
  | .vmem => 14
  | .smem => 1
  | _ => 0

abbrev hbmTy0_0 (i : Nat) : BufTy := match i % 128 with
  | 0 => ⟨S8x4096x4x2x64, .f32⟩
  | 1 => ⟨S8x4096x4x2x64, .f32⟩
  | 2 => ⟨S8x4096x4x128, .f32⟩
  | 3 => ⟨S32x16, .f32⟩
  | 4 => ⟨S1x64, .f32⟩
  | 5 => ⟨S1x64, .f32⟩
  | 6 => ⟨S1x64, .f32⟩
  | 7 => ⟨S1x64, .f32⟩
  | 8 => ⟨S1x128, .f32⟩
  | 9 => ⟨S32x8, .f32⟩
  | 10 => ⟨S64, .f32⟩
  | 11 => ⟨S64, .f32⟩
  | 12 => ⟨S64, .f32⟩
  | 13 => ⟨S_, .f32⟩
  | 14 => ⟨S_, .f32⟩
  | 15 => ⟨S_, .f32⟩
  | 16 => ⟨S64, .f32⟩
  | 17 => ⟨S64, .f32⟩
  | 18 => ⟨S64, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1, .f32⟩
  | 26 => ⟨S128, .f32⟩
  | 27 => ⟨S1x128, .f32⟩
  | 28 => ⟨S32768x512, .f32⟩
  | 29 => ⟨S32768x512, .f32⟩
  | 30 => ⟨S32768x512, .bf16⟩
  | 31 => ⟨S128x256x512, .f32⟩
  | 32 => ⟨S128x512x256, .f32⟩
  | 33 => ⟨S128x512x256, .bf16⟩
  | 34 => ⟨S256, .i32⟩
  | 35 => ⟨S1x256, .i32⟩
  | 36 => ⟨S256, .i32⟩
  | 37 => ⟨S256x1, .i32⟩
  | 38 => ⟨S_, .i32⟩
  | 39 => ⟨S1x256, .i32⟩
  | 40 => ⟨S1x256, .i32⟩
  | 41 => ⟨S256x256, .i32⟩
  | 42 => ⟨S256x256, .i32⟩
  | 43 => ⟨S256x256, .i32⟩
  | 44 => ⟨S_, .i32⟩
  | 45 => ⟨S256x256, .i32⟩
  | 46 => ⟨S256x256, .i32⟩
  | 47 => ⟨S_, .i32⟩
  | 48 => ⟨S256x256, .i32⟩
  | 49 => ⟨S256x256, .i32⟩
  | 50 => ⟨S256x256, .f32⟩
  | 51 => ⟨S_, .f32⟩
  | 52 => ⟨S256x256, .f32⟩
  | 53 => ⟨S256x256, .f32⟩
  | 54 => ⟨S256x256, .f32⟩
  | 55 => ⟨S_, .f32⟩
  | 56 => ⟨S256x256, .f32⟩
  | 57 => ⟨S256x256, .f32⟩
  | 58 => ⟨S_, .f32⟩
  | 59 => ⟨S256x256, .f32⟩
  | 60 => ⟨S256x256, .f32⟩
  | 61 => ⟨S256x256, .i32⟩
  | 62 => ⟨S_, .i32⟩
  | 63 => ⟨S256x256, .i32⟩
  | 64 => ⟨S256x256, .i32⟩
  | 65 => ⟨S_, .i32⟩
  | 66 => ⟨S256x256, .i32⟩
  | 67 => ⟨S256x256, .i32⟩
  | 68 => ⟨S_, .i32⟩
  | 69 => ⟨S256x256, .i32⟩
  | 70 => ⟨S256x256, .i1⟩
  | 71 => ⟨S256x256, .i32⟩
  | 72 => ⟨S256x256x1, .i32⟩
  | 73 => ⟨S1x1x32, .i32⟩
  | 74 => ⟨S256x256x32, .i32⟩
  | 75 => ⟨S256x256x32, .i32⟩
  | 76 => ⟨S256x256x32, .i1⟩
  | 77 => ⟨S256x256x32, .f32⟩
  | 78 => ⟨S256x256x8, .f32⟩
  | 79 => ⟨S8x256x256, .f32⟩
  | 80 => ⟨S1x256x256, .i32⟩
  | 81 => ⟨S_, .i32⟩
  | 82 => ⟨S1x256x256, .i32⟩
  | 83 => ⟨S1x256x256, .i1⟩
  | 84 => ⟨S_, .f32⟩
  | 85 => ⟨S_, .f32⟩
  | 86 => ⟨S8x256x256, .i1⟩
  | 87 => ⟨S8x256x256, .f32⟩
  | 88 => ⟨S8x256x256, .f32⟩
  | 89 => ⟨S_, .i32⟩
  | 90 => ⟨S1x256, .i32⟩
  | 91 => ⟨S1x256, .i32⟩
  | 92 => ⟨S256x256, .i32⟩
  | 93 => ⟨S256x256, .i32⟩
  | 94 => ⟨S256x256, .i32⟩
  | 95 => ⟨S_, .i32⟩
  | 96 => ⟨S256x256, .i32⟩
  | 97 => ⟨S256x256, .i32⟩
  | 98 => ⟨S_, .i32⟩
  | 99 => ⟨S256x256, .i32⟩
  | 100 => ⟨S256x256, .i32⟩
  | 101 => ⟨S256x256, .f32⟩
  | 102 => ⟨S_, .f32⟩
  | 103 => ⟨S256x256, .f32⟩
  | 104 => ⟨S256x256, .f32⟩
  | 105 => ⟨S256x256, .f32⟩
  | 106 => ⟨S_, .f32⟩
  | 107 => ⟨S256x256, .f32⟩
  | 108 => ⟨S256x256, .f32⟩
  | 109 => ⟨S_, .f32⟩
  | 110 => ⟨S256x256, .f32⟩
  | 111 => ⟨S256x256, .f32⟩
  | 112 => ⟨S256x256, .i32⟩
  | 113 => ⟨S_, .i32⟩
  | 114 => ⟨S256x256, .i32⟩
  | 115 => ⟨S256x256, .i32⟩
  | 116 => ⟨S_, .i32⟩
  | 117 => ⟨S256x256, .i32⟩
  | 118 => ⟨S256x256, .i32⟩
  | 119 => ⟨S_, .i32⟩
  | 120 => ⟨S256x256, .i32⟩
  | 121 => ⟨S256x256, .i1⟩
  | 122 => ⟨S256x256, .i32⟩
  | 123 => ⟨S256x256x1, .i32⟩
  | 124 => ⟨S1x1x32, .i32⟩
  | 125 => ⟨S256x256x32, .i32⟩
  | 126 => ⟨S256x256x32, .i32⟩
  | 127 => ⟨S256x256x32, .i1⟩
  | _ => ⟨S8x4096x4x2x64, .f32⟩

abbrev hbmTy0_1 (i : Nat) : BufTy := match i % 128 with
  | 0 => ⟨S256x256x32, .f32⟩
  | 1 => ⟨S256x256x8, .f32⟩
  | 2 => ⟨S8x256x256, .f32⟩
  | 3 => ⟨S1x256x256, .i32⟩
  | 4 => ⟨S_, .i32⟩
  | 5 => ⟨S1x256x256, .i32⟩
  | 6 => ⟨S1x256x256, .i1⟩
  | 7 => ⟨S_, .f32⟩
  | 8 => ⟨S_, .f32⟩
  | 9 => ⟨S8x256x256, .i1⟩
  | 10 => ⟨S8x256x256, .f32⟩
  | 11 => ⟨S8x256x256, .f32⟩
  | 12 => ⟨S_, .i32⟩
  | 13 => ⟨S1x256, .i32⟩
  | 14 => ⟨S1x256, .i32⟩
  | 15 => ⟨S256x256, .i32⟩
  | 16 => ⟨S256x256, .i32⟩
  | 17 => ⟨S256x256, .i32⟩
  | 18 => ⟨S_, .i32⟩
  | 19 => ⟨S256x256, .i32⟩
  | 20 => ⟨S256x256, .i32⟩
  | 21 => ⟨S_, .i32⟩
  | 22 => ⟨S256x256, .i32⟩
  | 23 => ⟨S256x256, .i32⟩
  | 24 => ⟨S256x256, .f32⟩
  | 25 => ⟨S_, .f32⟩
  | 26 => ⟨S256x256, .f32⟩
  | 27 => ⟨S256x256, .f32⟩
  | 28 => ⟨S256x256, .f32⟩
  | 29 => ⟨S_, .f32⟩
  | 30 => ⟨S256x256, .f32⟩
  | 31 => ⟨S256x256, .f32⟩
  | 32 => ⟨S_, .f32⟩
  | 33 => ⟨S256x256, .f32⟩
  | 34 => ⟨S256x256, .f32⟩
  | 35 => ⟨S256x256, .i32⟩
  | 36 => ⟨S_, .i32⟩
  | 37 => ⟨S256x256, .i32⟩
  | 38 => ⟨S256x256, .i32⟩
  | 39 => ⟨S_, .i32⟩
  | 40 => ⟨S256x256, .i32⟩
  | 41 => ⟨S256x256, .i32⟩
  | 42 => ⟨S_, .i32⟩
  | 43 => ⟨S256x256, .i32⟩
  | 44 => ⟨S256x256, .i1⟩
  | 45 => ⟨S256x256, .i32⟩
  | 46 => ⟨S256x256x1, .i32⟩
  | 47 => ⟨S1x1x32, .i32⟩
  | 48 => ⟨S256x256x32, .i32⟩
  | 49 => ⟨S256x256x32, .i32⟩
  | 50 => ⟨S256x256x32, .i1⟩
  | 51 => ⟨S256x256x32, .f32⟩
  | 52 => ⟨S256x256x8, .f32⟩
  | 53 => ⟨S8x256x256, .f32⟩
  | 54 => ⟨S1x256x256, .i32⟩
  | 55 => ⟨S_, .i32⟩
  | 56 => ⟨S1x256x256, .i32⟩
  | 57 => ⟨S1x256x256, .i1⟩
  | 58 => ⟨S_, .f32⟩
  | 59 => ⟨S_, .f32⟩
  | 60 => ⟨S8x256x256, .i1⟩
  | 61 => ⟨S8x256x256, .f32⟩
  | 62 => ⟨S8x256x256, .f32⟩
  | 63 => ⟨S1x8x256x256, .f32⟩
  | 64 => ⟨S1x8x256x256, .f32⟩
  | 65 => ⟨S1x8x256x256, .f32⟩
  | 66 => ⟨S3x8x256x256, .f32⟩
  | 67 => ⟨S32768x512, .bf16⟩
  | _ => ⟨S8x4096x4x2x64, .f32⟩

abbrev hbmTy (i : Nat) : BufTy := match i / 128 with
  | 0 => hbmTy0_0 i
  | 1 => hbmTy0_1 i
  | _ => ⟨S8x4096x4x2x64, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S4096x512, .bf16⟩
  | .local _ .vmem, ⟨3, _⟩ => ⟨S4096x512, .bf16⟩
  | .local _ .vmem, ⟨4, _⟩ => ⟨S16x512x256, .bf16⟩
  | .local _ .vmem, ⟨5, _⟩ => ⟨S16x512x256, .bf16⟩
  | .local _ .vmem, ⟨6, _⟩ => ⟨S3x8x256x256, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S8x256x128, .bf16⟩
  | .local _ .vmem, ⟨11, _⟩ => ⟨S8x1x256, .f32⟩
  | .local _ .vmem, ⟨12, _⟩ => ⟨S8x1x256, .f32⟩
  | .local _ .vmem, ⟨13, _⟩ => ⟨S8x128x256, .f32⟩
  | .local _ .smem, ⟨0, _⟩ => ⟨S1, .f32⟩
  | _, _ => ⟨S8x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_2 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_16 : Ref sig .tc := ⟨.hbm, 106, rfl⟩
abbrev main_v71 : Ref sig .tc := ⟨.hbm, 107, rfl⟩
abbrev main_v72 : Ref sig .tc := ⟨.hbm, 108, rfl⟩
abbrev main_cst_17 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_c_19 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_21 : Ref sig .tc := ⟨.hbm, 132, rfl⟩
abbrev main_v87 : Ref sig .tc := ⟨.hbm, 133, rfl⟩
abbrev main_v88 : Ref sig .tc := ⟨.hbm, 134, rfl⟩
abbrev main_cst_22 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v89 : Ref sig .tc := ⟨.hbm, 139, rfl⟩
abbrev main_c_23 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_24 : Ref sig .tc := ⟨.hbm, 146, rfl⟩
abbrev main_v95 : Ref sig .tc := ⟨.hbm, 147, rfl⟩
abbrev main_v96 : Ref sig .tc := ⟨.hbm, 148, rfl⟩
abbrev main_c_25 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_26 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_27 : Ref sig .tc := ⟨.hbm, 157, rfl⟩
abbrev main_v103 : Ref sig .tc := ⟨.hbm, 158, rfl⟩
abbrev main_v104 : Ref sig .tc := ⟨.hbm, 159, rfl⟩
abbrev main_cst_28 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_c_29 : Ref sig .tc := ⟨.hbm, 164, rfl⟩
abbrev main_v108 : Ref sig .tc := ⟨.hbm, 165, rfl⟩
abbrev main_v109 : Ref sig .tc := ⟨.hbm, 166, rfl⟩
abbrev main_c_30 : Ref sig .tc := ⟨.hbm, 167, rfl⟩
abbrev main_v110 : Ref sig .tc := ⟨.hbm, 168, rfl⟩
abbrev main_v111 : Ref sig .tc := ⟨.hbm, 169, rfl⟩
abbrev main_c_31 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_call7_v0 : Ref sig .tc := ⟨.hbm, 174, rfl⟩
abbrev main_call7_v1 : Ref sig .tc := ⟨.hbm, 175, rfl⟩
abbrev main_call7_v2 : Ref sig .tc := ⟨.hbm, 176, rfl⟩
abbrev main_call7_v3 : Ref sig .tc := ⟨.hbm, 177, rfl⟩
abbrev main_call7_v4 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_c_32 : Ref sig .tc := ⟨.hbm, 183, rfl⟩
abbrev main_v119 : Ref sig .tc := ⟨.hbm, 184, rfl⟩
abbrev main_v120 : Ref sig .tc := ⟨.hbm, 185, rfl⟩
abbrev main_cst_33 : Ref sig .tc := ⟨.hbm, 186, rfl⟩
abbrev main_call8_v0 : Ref sig .tc := ⟨.hbm, 187, rfl⟩
abbrev main_call8_v1 : Ref sig .tc := ⟨.hbm, 188, rfl⟩
abbrev main_call8_v2 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_46 : BitVec 32 := 1#32
  ⟨c0_i32_44, v80, c1_i32_46⟩
def k0_mult1 (i : grid0.Coords) (k0_t1 : Fin (k0_t1_loop i).trips) : BitVec 32 :=
  let c0_i32_44 : BitVec 32 := 0#32
  let c1_i32_46 : BitVec 32 := 1#32
  let arg13 : BitVec 32 := Scf.iv c0_i32_44 c1_i32_46 k0_t1
  let c256_i32 : BitVec 32 := 256#32
  let v222 : BitVec 32 := Scalar.muli arg13 c256_i32
  v222
def k0_off1 (i : grid0.Coords) (k0_t1 : Fin (k0_t1_loop i).trips) (c0_i32_129 : BitVec 32) : Fin 2 → Nat :=
  let c0_i32_44 : BitVec 32 := 0#32
  let c1_i32_46 : BitVec 32 := 1#32
  let arg13 : BitVec 32 := Scf.iv c0_i32_44 c1_i32_46 k0_t1
  let c256_i32 : BitVec 32 := 256#32
  let v222 : BitVec 32 := Scalar.muli arg13 c256_i32
  let v223 : BitVec 32 := v222
  let v226 : BitVec 32 := Scalar.addi v223 c0_i32_129
  let v227 : Index := Scalar.indexCast v226
  let c0_130 : Index := 0#32
  ![v227.toNat, 0]
def k0_off2 (i : grid0.Coords) (k0_t1 : Fin (k0_t1_loop i).trips) : Fin 3 → Nat :=
  let c0_i32_44 : BitVec 32 := 0#32
  let c1_i32_46 : BitVec 32 := 1#32
  let arg13 : BitVec 32 := Scf.iv c0_i32_44 c1_i32_46 k0_t1
  let v230 : Index := Scalar.indexCast arg13
  let c0_131 : Index := 0#32
  let c0_132 : Index := 0#32
  ![v230.toNat, 0, 0]
def k0_off3 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v236 : Index := Scalar.indexCast v225
  let c0_137 : Index := 0#32
  let c0_138 : Index := 0#32
  let c0_139 : Index := 0#32
  ![v236.toNat, 0, 0, 0]
def k0_off4 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v277 : Index := Scalar.indexCast v225
  let c1_166 : Index := 1#32
  let c0_167 : Index := 0#32
  let c0_168 : Index := 0#32
  ![v277.toNat, 1, 0, 0]
def k0_off5 (i : grid0.Coords) (k0_t1 : Fin (k0_t1_loop i).trips) (c0_i32_191 : BitVec 32) : Fin 2 → Nat :=
  let c0_i32_44 : BitVec 32 := 0#32
  let c1_i32_46 : BitVec 32 := 1#32
  let arg13 : BitVec 32 := Scf.iv c0_i32_44 c1_i32_46 k0_t1
  let c256_i32 : BitVec 32 := 256#32
  let v222 : BitVec 32 := Scalar.muli arg13 c256_i32
  let v223 : BitVec 32 := v222
  let v315 : BitVec 32 := Scalar.addi v223 c0_i32_191
  let v316 : Index := Scalar.indexCast v315
  let c128_192 : Index := 128#32
  ![v316.toNat, 128]
def k0_off6 (i : grid0.Coords) (k0_t1 : Fin (k0_t1_loop i).trips) : Fin 3 → Nat :=
  let c0_i32_44 : BitVec 32 := 0#32
  let c1_i32_46 : BitVec 32 := 1#32
  let arg13 : BitVec 32 := Scf.iv c0_i32_44 c1_i32_46 k0_t1
  let v319 : Index := Scalar.indexCast arg13
  let c128_193 : Index := 128#32
  let c0_194 : Index := 0#32
  ![v319.toNat, 128, 0]
def k0_off7 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v325 : Index := Scalar.indexCast v225
  let c2_199 : Index := 2#32
  let c0_200 : Index := 0#32
  let c0_201 : Index := 0#32
  ![v325.toNat, 2, 0, 0]
def k0_off8 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v366 : Index := Scalar.indexCast v225
  let c3_228 : Index := 3#32
  let c0_229 : Index := 0#32
  let c0_230 : Index := 0#32
  ![v366.toNat, 3, 0, 0]
def k0_off9 (i : grid0.Coords) (k0_t1 : Fin (k0_t1_loop i).trips) (c0_i32_253 : BitVec 32) : Fin 2 → Nat :=
  let c0_i32_44 : BitVec 32 := 0#32
  let c1_i32_46 : BitVec 32 := 1#32
  let arg13 : BitVec 32 := Scf.iv c0_i32_44 c1_i32_46 k0_t1
  let c256_i32 : BitVec 32 := 256#32
  let v222 : BitVec 32 := Scalar.muli arg13 c256_i32
  let v223 : BitVec 32 := v222
  let v404 : BitVec 32 := Scalar.addi v223 c0_i32_253
  let v405 : Index := Scalar.indexCast v404
  let c256_254 : Index := 256#32
  ![v405.toNat, 256]
def k0_off10 (i : grid0.Coords) (k0_t1 : Fin (k0_t1_loop i).trips) : Fin 3 → Nat :=
  let c0_i32_44 : BitVec 32 := 0#32
  let c1_i32_46 : BitVec 32 := 1#32
  let arg13 : BitVec 32 := Scf.iv c0_i32_44 c1_i32_46 k0_t1
  let v408 : Index := Scalar.indexCast arg13
  let c256_255 : Index := 256#32
  let c0_256 : Index := 0#32
  ![v408.toNat, 256, 0]
def k0_off11 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v414 : Index := Scalar.indexCast v225
  let c4_261 : Index := 4#32
  let c0_262 : Index := 0#32
  let c0_263 : Index := 0#32
  ![v414.toNat, 4, 0, 0]
def k0_off12 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v455 : Index := Scalar.indexCast v225
  let c5_290 : Index := 5#32
  let c0_291 : Index := 0#32
  let c0_292 : Index := 0#32
  ![v455.toNat, 5, 0, 0]
def k0_off13 (i : grid0.Coords) (k0_t1 : Fin (k0_t1_loop i).trips) (c0_i32_315 : BitVec 32) : Fin 2 → Nat :=
  let c0_i32_44 : BitVec 32 := 0#32
  let c1_i32_46 : BitVec 32 := 1#32
  let arg13 : BitVec 32 := Scf.iv c0_i32_44 c1_i32_46 k0_t1
  let c256_i32 : BitVec 32 := 256#32
  let v222 : BitVec 32 := Scalar.muli arg13 c256_i32
  let v223 : BitVec 32 := v222
  let v493 : BitVec 32 := Scalar.addi v223 c0_i32_315
  let v494 : Index := Scalar.indexCast v493
  let c384_316 : Index := 384#32
  ![v494.toNat, 384]
def k0_off14 (i : grid0.Coords) (k0_t1 : Fin (k0_t1_loop i).trips) : Fin 3 → Nat :=
  let c0_i32_44 : BitVec 32 := 0#32
  let c1_i32_46 : BitVec 32 := 1#32
  let arg13 : BitVec 32 := Scf.iv c0_i32_44 c1_i32_46 k0_t1
  let v497 : Index := Scalar.indexCast arg13
  let c384_317 : Index := 384#32
  let c0_318 : Index := 0#32
  ![v497.toNat, 384, 0]
def k0_off15 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v503 : Index := Scalar.indexCast v225
  let c6_323 : Index := 6#32
  let c0_324 : Index := 0#32
  let c0_325 : Index := 0#32
  ![v503.toNat, 6, 0, 0]
def k0_off16 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v544 : Index := Scalar.indexCast v225
  let c7_352 : Index := 7#32
  let c0_353 : Index := 0#32
  let c0_354 : Index := 0#32
  ![v544.toNat, 7, 0, 0]
def k0_off17 (i : grid0.Coords) (k0_t1 : Fin (k0_t1_loop i).trips) : Fin 3 → Nat :=
  let c0_i32_44 : BitVec 32 := 0#32
  let c1_i32_46 : BitVec 32 := 1#32
  let arg13 : BitVec 32 := Scf.iv c0_i32_44 c1_i32_46 k0_t1
  let v586 : Index := Scalar.indexCast arg13
  let c0_378 : Index := 0#32
  let c128_379 : Index := 128#32
  ![v586.toNat, 0, 128]
def k0_off18 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v592 : Index := Scalar.indexCast v225
  let c0_384 : Index := 0#32
  let c128_385 : Index := 128#32
  let c0_386 : Index := 0#32
  ![v592.toNat, 0, 128, 0]
def k0_off19 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v633 : Index := Scalar.indexCast v225
  let c1_413 : Index := 1#32
  let c128_414 : Index := 128#32
  let c0_415 : Index := 0#32
  ![v633.toNat, 1, 128, 0]
def k0_off20 (i : grid0.Coords) (k0_t1 : Fin (k0_t1_loop i).trips) : Fin 3 → Nat :=
  let c0_i32_44 : BitVec 32 := 0#32
  let c1_i32_46 : BitVec 32 := 1#32
  let arg13 : BitVec 32 := Scf.iv c0_i32_44 c1_i32_46 k0_t1
  let v675 : Index := Scalar.indexCast arg13
  let c128_440 : Index := 128#32
  let c128_441 : Index := 128#32
  ![v675.toNat, 128, 128]
def k0_off21 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v681 : Index := Scalar.indexCast v225
  let c2_446 : Index := 2#32
  let c128_447 : Index := 128#32
  let c0_448 : Index := 0#32
  ![v681.toNat, 2, 128, 0]
def k0_off22 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v722 : Index := Scalar.indexCast v225
  let c3_475 : Index := 3#32
  let c128_476 : Index := 128#32
  let c0_477 : Index := 0#32
  ![v722.toNat, 3, 128, 0]
def k0_off23 (i : grid0.Coords) (k0_t1 : Fin (k0_t1_loop i).trips) : Fin 3 → Nat :=
  let c0_i32_44 : BitVec 32 := 0#32
  let c1_i32_46 : BitVec 32 := 1#32
  let arg13 : BitVec 32 := Scf.iv c0_i32_44 c1_i32_46 k0_t1
  let v764 : Index := Scalar.indexCast arg13
  let c256_502 : Index := 256#32
  let c128_503 : Index := 128#32
  ![v764.toNat, 256, 128]
def k0_off24 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v770 : Index := Scalar.indexCast v225
  let c4_508 : Index := 4#32
  let c128_509 : Index := 128#32
  let c0_510 : Index := 0#32
  ![v770.toNat, 4, 128, 0]
def k0_off25 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v811 : Index := Scalar.indexCast v225
  let c5_537 : Index := 5#32
  let c128_538 : Index := 128#32
  let c0_539 : Index := 0#32
  ![v811.toNat, 5, 128, 0]
def k0_off26 (i : grid0.Coords) (k0_t1 : Fin (k0_t1_loop i).trips) : Fin 3 → Nat :=
  let c0_i32_44 : BitVec 32 := 0#32
  let c1_i32_46 : BitVec 32 := 1#32
  let arg13 : BitVec 32 := Scf.iv c0_i32_44 c1_i32_46 k0_t1
  let v853 : Index := Scalar.indexCast arg13
  let c384_564 : Index := 384#32
  let c128_565 : Index := 128#32
  ![v853.toNat, 384, 128]
def k0_off27 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v859 : Index := Scalar.indexCast v225
  let c6_570 : Index := 6#32
  let c128_571 : Index := 128#32
  let c0_572 : Index := 0#32
  ![v859.toNat, 6, 128, 0]
def k0_off28 (i : grid0.Coords) (k0_t1 : Fin (k0_t1_loop i).trips) : Fin 4 → Nat :=
  let arg1 : BitVec 32 := BitVec.ofNat 32 (i 1).val
  let c0_i32_44 : BitVec 32 := 0#32
  let c1_i32_46 : BitVec 32 := 1#32
  let arg13 : BitVec 32 := Scf.iv c0_i32_44 c1_i32_46 k0_t1
  let v224 : BitVec 32 := Scalar.subi arg1 arg13
  let c2_i32 : BitVec 32 := 2#32
  let v225 : BitVec 32 := Scalar.minsi v224 c2_i32
  let v900 : Index := Scalar.indexCast v225
  let c7_599 : Index := 7#32
  let c128_600 : Index := 128#32
  let c0_601 : Index := 0#32
  ![v900.toNat, 7, 128, 0]
@[reducible] def k0_t2_loop (i : grid0.Coords) : Scf.Loop 32 :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let v77 : BitVec 32 := Scalar.addi c0_i32_44 v76
  let c1_i32_47 : BitVec 32 := 1#32
  ⟨v80, v77, c1_i32_47⟩
def k0_mult2 (i : grid0.Coords) (k0_t2 : Fin (k0_t2_loop i).trips) : BitVec 32 :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let c256_i32 : BitVec 32 := 256#32
  let v222 : BitVec 32 := Scalar.muli arg13 c256_i32
  v222
def k0_off29 (i : grid0.Coords) (k0_t2 : Fin (k0_t2_loop i).trips) (c0_i32_129 : BitVec 32) : Fin 2 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let c256_i32 : BitVec 32 := 256#32
  let v222 : BitVec 32 := Scalar.muli arg13 c256_i32
  let v223 : BitVec 32 := v222
  let v226 : BitVec 32 := Scalar.addi v223 c0_i32_129
  let v227 : Index := Scalar.indexCast v226
  let c0_130 : Index := 0#32
  ![v227.toNat, 0]
def k0_off30 (i : grid0.Coords) (k0_t2 : Fin (k0_t2_loop i).trips) : Fin 3 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v230 : Index := Scalar.indexCast arg13
  let c0_131 : Index := 0#32
  let c0_132 : Index := 0#32
  ![v230.toNat, 0, 0]
def k0_off31 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v236 : Index := Scalar.indexCast v225
  let c0_137 : Index := 0#32
  let c0_138 : Index := 0#32
  let c0_139 : Index := 0#32
  ![v236.toNat, 0, 0, 0]
def k0_off32 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v277 : Index := Scalar.indexCast v225
  let c1_166 : Index := 1#32
  let c0_167 : Index := 0#32
  let c0_168 : Index := 0#32
  ![v277.toNat, 1, 0, 0]
def k0_off33 (i : grid0.Coords) (k0_t2 : Fin (k0_t2_loop i).trips) (c0_i32_191 : BitVec 32) : Fin 2 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let c256_i32 : BitVec 32 := 256#32
  let v222 : BitVec 32 := Scalar.muli arg13 c256_i32
  let v223 : BitVec 32 := v222
  let v315 : BitVec 32 := Scalar.addi v223 c0_i32_191
  let v316 : Index := Scalar.indexCast v315
  let c128_192 : Index := 128#32
  ![v316.toNat, 128]
def k0_off34 (i : grid0.Coords) (k0_t2 : Fin (k0_t2_loop i).trips) : Fin 3 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v319 : Index := Scalar.indexCast arg13
  let c128_193 : Index := 128#32
  let c0_194 : Index := 0#32
  ![v319.toNat, 128, 0]
def k0_off35 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v325 : Index := Scalar.indexCast v225
  let c2_199 : Index := 2#32
  let c0_200 : Index := 0#32
  let c0_201 : Index := 0#32
  ![v325.toNat, 2, 0, 0]
def k0_off36 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v366 : Index := Scalar.indexCast v225
  let c3_228 : Index := 3#32
  let c0_229 : Index := 0#32
  let c0_230 : Index := 0#32
  ![v366.toNat, 3, 0, 0]
def k0_off37 (i : grid0.Coords) (k0_t2 : Fin (k0_t2_loop i).trips) (c0_i32_253 : BitVec 32) : Fin 2 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let c256_i32 : BitVec 32 := 256#32
  let v222 : BitVec 32 := Scalar.muli arg13 c256_i32
  let v223 : BitVec 32 := v222
  let v404 : BitVec 32 := Scalar.addi v223 c0_i32_253
  let v405 : Index := Scalar.indexCast v404
  let c256_254 : Index := 256#32
  ![v405.toNat, 256]
def k0_off38 (i : grid0.Coords) (k0_t2 : Fin (k0_t2_loop i).trips) : Fin 3 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v408 : Index := Scalar.indexCast arg13
  let c256_255 : Index := 256#32
  let c0_256 : Index := 0#32
  ![v408.toNat, 256, 0]
def k0_off39 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v414 : Index := Scalar.indexCast v225
  let c4_261 : Index := 4#32
  let c0_262 : Index := 0#32
  let c0_263 : Index := 0#32
  ![v414.toNat, 4, 0, 0]
def k0_off40 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v455 : Index := Scalar.indexCast v225
  let c5_290 : Index := 5#32
  let c0_291 : Index := 0#32
  let c0_292 : Index := 0#32
  ![v455.toNat, 5, 0, 0]
def k0_off41 (i : grid0.Coords) (k0_t2 : Fin (k0_t2_loop i).trips) (c0_i32_315 : BitVec 32) : Fin 2 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let c256_i32 : BitVec 32 := 256#32
  let v222 : BitVec 32 := Scalar.muli arg13 c256_i32
  let v223 : BitVec 32 := v222
  let v493 : BitVec 32 := Scalar.addi v223 c0_i32_315
  let v494 : Index := Scalar.indexCast v493
  let c384_316 : Index := 384#32
  ![v494.toNat, 384]
def k0_off42 (i : grid0.Coords) (k0_t2 : Fin (k0_t2_loop i).trips) : Fin 3 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v497 : Index := Scalar.indexCast arg13
  let c384_317 : Index := 384#32
  let c0_318 : Index := 0#32
  ![v497.toNat, 384, 0]
def k0_off43 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v503 : Index := Scalar.indexCast v225
  let c6_323 : Index := 6#32
  let c0_324 : Index := 0#32
  let c0_325 : Index := 0#32
  ![v503.toNat, 6, 0, 0]
def k0_off44 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v544 : Index := Scalar.indexCast v225
  let c7_352 : Index := 7#32
  let c0_353 : Index := 0#32
  let c0_354 : Index := 0#32
  ![v544.toNat, 7, 0, 0]
def k0_off45 (i : grid0.Coords) (k0_t2 : Fin (k0_t2_loop i).trips) : Fin 3 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v586 : Index := Scalar.indexCast arg13
  let c0_378 : Index := 0#32
  let c128_379 : Index := 128#32
  ![v586.toNat, 0, 128]
def k0_off46 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v592 : Index := Scalar.indexCast v225
  let c0_384 : Index := 0#32
  let c128_385 : Index := 128#32
  let c0_386 : Index := 0#32
  ![v592.toNat, 0, 128, 0]
def k0_off47 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v633 : Index := Scalar.indexCast v225
  let c1_413 : Index := 1#32
  let c128_414 : Index := 128#32
  let c0_415 : Index := 0#32
  ![v633.toNat, 1, 128, 0]
def k0_off48 (i : grid0.Coords) (k0_t2 : Fin (k0_t2_loop i).trips) : Fin 3 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v675 : Index := Scalar.indexCast arg13
  let c128_440 : Index := 128#32
  let c128_441 : Index := 128#32
  ![v675.toNat, 128, 128]
def k0_off49 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v681 : Index := Scalar.indexCast v225
  let c2_446 : Index := 2#32
  let c128_447 : Index := 128#32
  let c0_448 : Index := 0#32
  ![v681.toNat, 2, 128, 0]
def k0_off50 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v722 : Index := Scalar.indexCast v225
  let c3_475 : Index := 3#32
  let c128_476 : Index := 128#32
  let c0_477 : Index := 0#32
  ![v722.toNat, 3, 128, 0]
def k0_off51 (i : grid0.Coords) (k0_t2 : Fin (k0_t2_loop i).trips) : Fin 3 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v764 : Index := Scalar.indexCast arg13
  let c256_502 : Index := 256#32
  let c128_503 : Index := 128#32
  ![v764.toNat, 256, 128]
def k0_off52 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v770 : Index := Scalar.indexCast v225
  let c4_508 : Index := 4#32
  let c128_509 : Index := 128#32
  let c0_510 : Index := 0#32
  ![v770.toNat, 4, 128, 0]
def k0_off53 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v811 : Index := Scalar.indexCast v225
  let c5_537 : Index := 5#32
  let c128_538 : Index := 128#32
  let c0_539 : Index := 0#32
  ![v811.toNat, 5, 128, 0]
def k0_off54 (i : grid0.Coords) (k0_t2 : Fin (k0_t2_loop i).trips) : Fin 3 → Nat :=
  let c0_i32_44 : BitVec 32 := 0#32
  let arg1 : BitVec 32 := BitVec.ofNat 32 (i 1).val
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v853 : Index := Scalar.indexCast arg13
  let c384_564 : Index := 384#32
  let c128_565 : Index := 128#32
  ![v853.toNat, 384, 128]
def k0_off55 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v859 : Index := Scalar.indexCast v225
  let c6_570 : Index := 6#32
  let c128_571 : Index := 128#32
  let c0_572 : Index := 0#32
  ![v859.toNat, 6, 128, 0]
def k0_off56 (i : grid0.Coords) (k0_t2 : Fin (k0_t2_loop i).trips) : Fin 4 → Nat :=
  let arg1 : BitVec 32 := BitVec.ofNat 32 (i 1).val
  let c0_i32_44 : BitVec 32 := 0#32
  let c1_i32 : BitVec 32 := 1#32
  let v75 : BitVec 32 := Scalar.addi arg1 c1_i32
  let v76 : BitVec 32 := Scalar.subi v75 c0_i32_44
  let c1_i32_45 : BitVec 32 := 1#32
  let v78 : BitVec 32 := Scalar.divsi v76 c1_i32_45
  let v79 : BitVec 32 := Scalar.muli v78 c1_i32_45
  let v80 : BitVec 32 := Scalar.addi c0_i32_44 v79
  let c1_i32_47 : BitVec 32 := 1#32
  let arg13 : BitVec 32 := Scf.iv v80 c1_i32_47 k0_t2
  let v224 : BitVec 32 := Scalar.subi arg1 arg13
  let c2_i32 : BitVec 32 := 2#32
  let v225 : BitVec 32 := Scalar.minsi v224 c2_i32
  let v900 : Index := Scalar.indexCast v225
  let c7_599 : Index := 7#32
  let c128_600 : Index := 128#32
  let c0_601 : Index := 0#32
  ![v900.toNat, 7, 128, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((8 * (Real.log 2))⁻¹ : ℝ) : EReal)
  | _ => none
-- ==== ReferenceIdeal.lean ====
abbrev S8x4096x4x2x64 : Shape := ⟨5, ![8, 4096, 4, 2, 64]⟩
abbrev S8x4096x4x128 : Shape := ⟨4, ![8, 4096, 4, 128]⟩
abbrev S32x16 : Shape := ⟨2, ![32, 16]⟩
abbrev S1x64 : Shape := ⟨2, ![1, 64]⟩
abbrev S1x128 : Shape := ⟨2, ![1, 128]⟩
abbrev S32x8 : Shape := ⟨2, ![32, 8]⟩
abbrev S32x4x2 : Shape := ⟨3, ![32, 4, 2]⟩
abbrev S64 : Shape := ⟨1, ![64]⟩
abbrev S_ : Shape := ⟨0, ![]⟩
abbrev S4096 : Shape := ⟨1, ![4096]⟩
abbrev S8x4x2x4096x4096 : Shape := ⟨5, ![8, 4, 2, 4096, 4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x4x2 : Shape := ⟨4, ![4096, 4096, 4, 2]⟩
abbrev S4x2x4096x4096 : Shape := ⟨4, ![4, 2, 4096, 4096]⟩
abbrev S1x4x2x4096x4096 : Shape := ⟨5, ![1, 4, 2, 4096, 4096]⟩
abbrev S8x4x2x4096 : Shape := ⟨4, ![8, 4, 2, 4096]⟩
abbrev S8x4x2x4096x1 : Shape := ⟨5, ![8, 4, 2, 4096, 1]⟩
abbrev S8x4x2x4096x128 : Shape := ⟨5, ![8, 4, 2, 4096, 128]⟩
abbrev S8x4x1x4096x128 : Shape := ⟨5, ![8, 4, 1, 4096, 128]⟩
abbrev S8x4x4096x128 : Shape := ⟨4, ![8, 4, 4096, 128]⟩
abbrev S128 : Shape := ⟨1, ![128]⟩
abbrev S8x4x4096 : Shape := ⟨3, ![8, 4, 4096]⟩
abbrev S8x4x4096x1 : Shape := ⟨4, ![8, 4, 4096, 1]⟩
abbrev S1x1x1x128 : Shape := ⟨4, ![1, 1, 1, 128]⟩
abbrev S8x4096x512 : Shape := ⟨3, ![8, 4096, 512]⟩
abbrev S32768x512 : Shape := ⟨2, ![32768, 512]⟩

abbrev nBuf : Space → Nat
  | .hbm => 131
  | .vmem => 0
  | .smem => 0
  | _ => 0

abbrev hbmTy0_0 (i : Nat) : BufTy := match i % 128 with
  | 0 => ⟨S8x4096x4x2x64, .f32⟩
  | 1 => ⟨S8x4096x4x2x64, .f32⟩
  | 2 => ⟨S8x4096x4x128, .f32⟩
  | 3 => ⟨S32x16, .f32⟩
  | 4 => ⟨S1x64, .f32⟩
  | 5 => ⟨S1x64, .f32⟩
  | 6 => ⟨S1x64, .f32⟩
  | 7 => ⟨S1x64, .f32⟩
  | 8 => ⟨S1x128, .f32⟩
  | 9 => ⟨S32x8, .f32⟩
  | 10 => ⟨S32x4x2, .f32⟩
  | 11 => ⟨S64, .f32⟩
  | 12 => ⟨S64, .f32⟩
  | 13 => ⟨S64, .f32⟩
  | 14 => ⟨S_, .f32⟩
  | 15 => ⟨S_, .f32⟩
  | 16 => ⟨S_, .f32⟩
  | 17 => ⟨S64, .f32⟩
  | 18 => ⟨S64, .f32⟩
  | 19 => ⟨S64, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S4096, .i32⟩
  | 27 => ⟨S8x4x2x4096x4096, .f32⟩
  | 28 => ⟨S_, .f32⟩
  | 29 => ⟨S8x4x2x4096x4096, .f32⟩
  | 30 => ⟨S8x4x2x4096x4096, .f32⟩
  | 31 => ⟨S4096x1, .i32⟩
  | 32 => ⟨S1x4096, .i32⟩
  | 33 => ⟨S4096x4096, .i32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S_, .i32⟩
  | 40 => ⟨S4096x4096, .i32⟩
  | 41 => ⟨S4096x4096, .i32⟩
  | 42 => ⟨S4096x4096, .f32⟩
  | 43 => ⟨S_, .f32⟩
  | 44 => ⟨S4096x4096, .f32⟩
  | 45 => ⟨S4096x4096, .f32⟩
  | 46 => ⟨S4096x4096, .f32⟩
  | 47 => ⟨S_, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S4096x4096, .i32⟩
  | 54 => ⟨S_, .i32⟩
  | 55 => ⟨S4096x4096, .i32⟩
  | 56 => ⟨S4096x4096, .i32⟩
  | 57 => ⟨S_, .i32⟩
  | 58 => ⟨S4096x4096, .i32⟩
  | 59 => ⟨S4096x4096, .i32⟩
  | 60 => ⟨S_, .i32⟩
  | 61 => ⟨S4096x4096, .i32⟩
  | 62 => ⟨S4096x4096, .i1⟩
  | 63 => ⟨S4096x4096, .i32⟩
  | 64 => ⟨S_, .i32⟩
  | 65 => ⟨S4096x4096, .i32⟩
  | 66 => ⟨S4096x4096, .i1⟩
  | 67 => ⟨S_, .i32⟩
  | 68 => ⟨S4096x4096, .i32⟩
  | 69 => ⟨S4096x4096, .i32⟩
  | 70 => ⟨S4096x4096, .i32⟩
  | 71 => ⟨S4096x4096x1, .i32⟩
  | 72 => ⟨S4096x4096x4x2, .f32⟩
  | 73 => ⟨S4x2x4096x4096, .f32⟩
  | 74 => ⟨S1x4x2x4096x4096, .f32⟩
  | 75 => ⟨S8x4x2x4096x4096, .f32⟩
  | 76 => ⟨S8x4x2x4096x4096, .f32⟩
  | 77 => ⟨S_, .i32⟩
  | 78 => ⟨S4096x4096, .i32⟩
  | 79 => ⟨S4096x4096, .i1⟩
  | 80 => ⟨S_, .f32⟩
  | 81 => ⟨S_, .f32⟩
  | 82 => ⟨S8x4x2x4096x4096, .i1⟩
  | 83 => ⟨S8x4x2x4096x4096, .f32⟩
  | 84 => ⟨S8x4x2x4096x4096, .f32⟩
  | 85 => ⟨S_, .f32⟩
  | 86 => ⟨S8x4x2x4096, .f32⟩
  | 87 => ⟨S_, .f32⟩
  | 88 => ⟨S8x4x2x4096, .f32⟩
  | 89 => ⟨S8x4x2x4096, .f32⟩
  | 90 => ⟨S8x4x2x4096x1, .f32⟩
  | 91 => ⟨S8x4x2x4096x4096, .f32⟩
  | 92 => ⟨S8x4x2x4096x4096, .f32⟩
  | 93 => ⟨S8x4x2x4096x4096, .f32⟩
  | 94 => ⟨S_, .f32⟩
  | 95 => ⟨S8x4x2x4096, .f32⟩
  | 96 => ⟨S8x4x2x4096x1, .f32⟩
  | 97 => ⟨S8x4x2x4096x4096, .f32⟩
  | 98 => ⟨S8x4x2x4096x4096, .f32⟩
  | 99 => ⟨S8x4x2x4096x128, .f32⟩
  | 100 => ⟨S8x4x1x4096x128, .f32⟩
  | 101 => ⟨S8x4x4096x128, .f32⟩
  | 102 => ⟨S8x4x1x4096x128, .f32⟩
  | 103 => ⟨S8x4x4096x128, .f32⟩
  | 104 => ⟨S8x4x4096x128, .f32⟩
  | 105 => ⟨S8x4x4096x128, .f32⟩
  | 106 => ⟨S8x4x4096x128, .f32⟩
  | 107 => ⟨S128, .f32⟩
  | 108 => ⟨S8x4x4096x128, .f32⟩
  | 109 => ⟨S_, .f32⟩
  | 110 => ⟨S8x4x4096, .f32⟩
  | 111 => ⟨S8x4x4096x1, .f32⟩
  | 112 => ⟨S_, .f32⟩
  | 113 => ⟨S8x4x4096x1, .f32⟩
  | 114 => ⟨S8x4x4096x1, .f32⟩
  | 115 => ⟨S_, .f32⟩
  | 116 => ⟨S8x4x4096x1, .f32⟩
  | 117 => ⟨S8x4x4096x1, .f32⟩
  | 118 => ⟨S8x4x4096x1, .f32⟩
  | 119 => ⟨S8x4x4096x128, .f32⟩
  | 120 => ⟨S8x4x4096x128, .f32⟩
  | 121 => ⟨S1x1x1x128, .f32⟩
  | 122 => ⟨S8x4x4096x128, .f32⟩
  | 123 => ⟨S8x4x4096x128, .f32⟩
  | 124 => ⟨S_, .f32⟩
  | 125 => ⟨S8x4x4096x128, .f32⟩
  | 126 => ⟨S8x4x4096x128, .f32⟩
  | 127 => ⟨S8x4096x4x128, .f32⟩
  | _ => ⟨S8x4096x4x2x64, .f32⟩

abbrev hbmTy0_1 (i : Nat) : BufTy := match i % 128 with
  | 0 => ⟨S8x4096x512, .f32⟩
  | 1 => ⟨S32768x512, .f32⟩
  | 2 => ⟨S32768x512, .bf16⟩
  | _ => ⟨S8x4096x4x2x64, .f32⟩

abbrev hbmTy (i : Nat) : BufTy := match i / 128 with
  | 0 => hbmTy0_0 i
  | 1 => hbmTy0_1 i
  | _ => ⟨S8x4096x4x2x64, .f32⟩

abbrev bufTy : (tb : Table) → Fin (tcTables nBuf tb) → BufTy
  | .hbm, ⟨i, _⟩ => hbmTy i
  | _, _ => ⟨S8x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024 : Shape := ⟨2, ![1, 1024]⟩
abbrev S1x1024x3656 : Shape := ⟨3, ![1, 1024, 3656]⟩
abbrev S1x64 : Shape := ⟨2, ![1, 64]⟩
abbrev S1024x3656 : Shape := ⟨2, ![1024, 3656]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x128 : Shape := ⟨2, ![1024, 128]⟩
abbrev S1024x3840 : Shape := ⟨2, ![1024, 3840]⟩
abbrev S64 : Shape := ⟨1, ![64]⟩
abbrev S128 : Shape := ⟨1, ![128]⟩
abbrev S1x128 : Shape := ⟨2, ![1, 128]⟩
abbrev S1024 : Shape := ⟨1, ![1024]⟩
abbrev S32768x1024 : Shape := ⟨2, ![32768, 1024]⟩
abbrev S32768x512 : Shape := ⟨2, ![32768, 512]⟩
abbrev S128x512x256 : Shape := ⟨3, ![128, 512, 256]⟩
abbrev S32768x128 : Shape := ⟨2, ![32768, 128]⟩
abbrev S512x1024 : Shape := ⟨2, ![512, 1024]⟩
abbrev S512x512 : Shape := ⟨2, ![512, 512]⟩
abbrev S2x512x256 : Shape := ⟨3, ![2, 512, 256]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S256x512 : Shape := ⟨2, ![256, 512]⟩
abbrev S512x256 : Shape := ⟨2, ![512, 256]⟩
abbrev S1x512x256 : Shape := ⟨3, ![1, 512, 256]⟩

abbrev nBuf : Space → Nat
  | .hbm => 39
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3656, .f32⟩
  | .hbm, ⟨3, _⟩ => ⟨S1x64, .f32⟩
  | .hbm, ⟨4, _⟩ => ⟨S1024x3656, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x3840, .f32⟩
  | .hbm, ⟨18, _⟩ => ⟨S1024x3840, .bf16⟩
  | .hbm, ⟨19, _⟩ => ⟨S64, .f32⟩
  | .hbm, ⟨20, _⟩ => ⟨S64, .f32⟩
  | .hbm, ⟨21, _⟩ => ⟨S128, .f32⟩
  | .hbm, ⟨22, _⟩ => ⟨S1x128, .f32⟩
  | .hbm, ⟨23, _⟩ => ⟨S1024, .f32⟩
  | .hbm, ⟨24, _⟩ => ⟨S1x1024, .f32⟩
  | .hbm, ⟨25, _⟩ => ⟨S32768x1024, .f32⟩
  | .hbm, ⟨26, _⟩ => ⟨S32768x512, .bf16⟩
  | .hbm, ⟨27, _⟩ => ⟨S32768x1024, .f32⟩
  | .hbm, ⟨28, _⟩ => ⟨S32768x512, .bf16⟩
  | .hbm, ⟨29, _⟩ => ⟨S128x512x256, .bf16⟩
  | .hbm, ⟨30, _⟩ => ⟨S32768x512, .bf16⟩
  | .hbm, ⟨31, _⟩ => ⟨S32768x128, .f32⟩
  | .hbm, ⟨32, _⟩ => ⟨S32768x128, .bf16⟩
  | .hbm, ⟨33, _⟩ => ⟨S32768x128, .f32⟩
  | .hbm, ⟨34, _⟩ => ⟨S32768x512, .bf16⟩
  | .hbm, ⟨35, _⟩ => ⟨S32768x512, .f32⟩
  | .hbm, ⟨36, _⟩ => ⟨S32768x512, .f32⟩
  | .hbm, ⟨37, _⟩ => ⟨S32768x512, .bf16⟩
  | .hbm, ⟨38, _⟩ => ⟨S128x512x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x1024, .f32⟩
  | .local _ .vmem, ⟨8, _⟩ => ⟨S512x1024, .f32⟩
  | .local _ .vmem, ⟨9, _⟩ => ⟨S512x512, .bf16⟩
  | .local _ .vmem, ⟨10, _⟩ => ⟨S512x512, .bf16⟩
  | .local _ .vmem, ⟨11, _⟩ => ⟨S2x512x256, .bf16⟩
  | .local _ .vmem, ⟨12, _⟩ => ⟨S2x512x256, .bf16⟩
  | .local _ .vmem, ⟨13, _⟩ => ⟨S512x512, .bf16⟩
  | .local _ .vmem, ⟨14, _⟩ => ⟨S512x512, .bf16⟩
  | .local _ .vmem, ⟨15, _⟩ => ⟨S512x128, .f32⟩
  | .local _ .vmem, ⟨16, _⟩ => ⟨S512x128, .f32⟩
  | .local _ .vmem, ⟨17, _⟩ => ⟨S512x128, .bf16⟩
  | .local _ .vmem, ⟨18, _⟩ => ⟨S512x128, .bf16⟩
  | .local _ .vmem, ⟨19, _⟩ => ⟨S512x128, .f32⟩
  | .local _ .vmem, ⟨20, _⟩ => ⟨S512x128, .f32⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .bf16⟩
  | .local _ .vmem, ⟨28, _⟩ => ⟨S512x512, .bf16⟩
  | .local _ .vmem, ⟨29, _⟩ => ⟨S2x512x256, .bf16⟩
  | .local _ .vmem, ⟨30, _⟩ => ⟨S2x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v20_2 : Ref sig .tc := ⟨.hbm, 28, rfl⟩
abbrev main_v20_3 : Ref sig .tc := ⟨.hbm, 29, rfl⟩
abbrev main_v20_4 : Ref sig .tc := ⟨.hbm, 30, rfl⟩
abbrev main_v20_5 : Ref sig .tc := ⟨.hbm, 31, rfl⟩
abbrev main_v20_6 : Ref sig .tc := ⟨.hbm, 32, rfl⟩
abbrev main_v20_7 : Ref sig .tc := ⟨.hbm, 33, rfl⟩
abbrev main_v20_8 : Ref sig .tc := ⟨.hbm, 34, rfl⟩
abbrev main_v20_9 : Ref sig .tc := ⟨.hbm, 35, rfl⟩
abbrev main_v20_10 : Ref sig .tc := ⟨.hbm, 36, rfl⟩
abbrev main_v20_11 : Ref sig .tc := ⟨.hbm, 37, rfl⟩
abbrev main_v20_12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel2Ideal.lean ====
variable {F : FTy → Type} [FloatOps F] [Named F]
def κ : String → Option EReal := fun
  | "scale_log2e" => some (((8 * (Real.log 2))⁻¹ : ℝ) : EReal)
  | _ => none
-- ==== Reference2Ideal.lean ====
abbrev S8x4096x1024 : Shape := ⟨3, ![8, 4096, 1024]⟩
abbrev S1x1024 : Shape := ⟨2, ![1, 1024]⟩
abbrev S1x1024x3656 : Shape := ⟨3, ![1, 1024, 3656]⟩
abbrev S1x64 : Shape := ⟨2, ![1, 64]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3656 : Shape := ⟨2, ![1024, 3656]⟩
abbrev S8x4096x3656 : Shape := ⟨3, ![8, 4096, 3656]⟩
abbrev S8x4096x512 : Shape := ⟨3, ![8, 4096, 512]⟩
abbrev S8x4096x64 : Shape := ⟨3, ![8, 4096, 64]⟩
abbrev S8x4096x8 : Shape := ⟨3, ![8, 4096, 8]⟩
abbrev S8x4096x1x512 : Shape := ⟨4, ![8, 4096, 1, 512]⟩
abbrev S8x4096x2x512 : Shape := ⟨4, ![8, 4096, 2, 512]⟩
abbrev S64 : Shape := ⟨1, ![64]⟩
abbrev S1x1x64 : Shape := ⟨3, ![1, 1, 64]⟩
abbrev S32768x1024 : Shape := ⟨2, ![32768, 1024]⟩
abbrev S8x4096x128 : Shape := ⟨3, ![8, 4096, 128]⟩
abbrev S32768x128 : Shape := ⟨2, ![32768, 128]⟩
abbrev S32768x512 : Shape := ⟨2, ![32768, 512]⟩
abbrev S32768x8 : Shape := ⟨2, ![32768, 8]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3656, .f32⟩
  | .hbm, ⟨3, _⟩ => ⟨S1x64, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1024x3656, .f32⟩
  | .hbm, ⟨22, _⟩ => ⟨S8x4096x3656, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S8x4096x64, .f32⟩
  | .hbm, ⟨28, _⟩ => ⟨S8x4096x8, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x1x512, .f32⟩
  | .hbm, ⟨33, _⟩ => ⟨S8x4096x1x512, .f32⟩
  | .hbm, ⟨34, _⟩ => ⟨S8x4096x2x512, .f32⟩
  | .hbm, ⟨35, _⟩ => ⟨S64, .f32⟩
  | .hbm, ⟨36, _⟩ => ⟨S8x4096x64, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x64, .f32⟩
  | .hbm, ⟨48, _⟩ => ⟨S8x4096x64, .f32⟩
  | .hbm, ⟨49, _⟩ => ⟨S1x1x64, .f32⟩
  | .hbm, ⟨50, _⟩ => ⟨S8x4096x64, .f32⟩
  | .hbm, ⟨51, _⟩ => ⟨S8x4096x64, .f32⟩
  | .hbm, ⟨52, _⟩ => ⟨S_, .f32⟩
  | .hbm, ⟨53, _⟩ => ⟨S_, .f32⟩
  | .hbm, ⟨54, _⟩ => ⟨S32768x1024, .f32⟩
  | .hbm, ⟨55, _⟩ => ⟨S8x4096x128, .f32⟩
  | .hbm, ⟨56, _⟩ => ⟨S32768x128, .f32⟩
  | .hbm, ⟨57, _⟩ => ⟨S32768x512, .f32⟩
  | .hbm, ⟨58, _⟩ => ⟨S32768x512, .f32⟩
  | .hbm, ⟨59, _⟩ => ⟨S_, .f32⟩
  | .hbm, ⟨60, _⟩ => ⟨S8x4096x512, .f32⟩
  | .hbm, ⟨61, _⟩ => ⟨S8x4096x512, .f32⟩
  | .hbm, ⟨62, _⟩ => ⟨S8x4096x512, .f32⟩
  | .hbm, ⟨63, _⟩ => ⟨S8x4096x512, .f32⟩
  | .hbm, ⟨64, _⟩ => ⟨S32768x512, .f32⟩
  | .hbm, ⟨65, _⟩ => ⟨S32768x512, .bf16⟩
  | .hbm, ⟨66, _⟩ => ⟨S_, .f32⟩
  | .hbm, ⟨67, _⟩ => ⟨S8x4096x512, .f32⟩
  | .hbm, ⟨68, _⟩ => ⟨S8x4096x512, .f32⟩
  | .hbm, ⟨69, _⟩ => ⟨S32768x512, .f32⟩
  | .hbm, ⟨70, _⟩ => ⟨S32768x512, .bf16⟩
  | .hbm, ⟨71, _⟩ => ⟨S_, .f32⟩
  | .hbm, ⟨72, _⟩ => ⟨S8x4096x512, .f32⟩
  | .hbm, ⟨73, _⟩ => ⟨S8x4096x512, .f32⟩
  | .hbm, ⟨74, _⟩ => ⟨S8x4096x512, .f32⟩
  | .hbm, ⟨75, _⟩ => ⟨S8x4096x512, .f32⟩
  | .hbm, ⟨76, _⟩ => ⟨S32768x512, .f32⟩
  | .hbm, ⟨77, _⟩ => ⟨S32768x512, .bf16⟩
  | .hbm, ⟨78, _⟩ => ⟨S_, .f32⟩
  | .hbm, ⟨79, _⟩ => ⟨S8x4096x8, .f32⟩
  | .hbm, ⟨80, _⟩ => ⟨S8x4096x8, .f32⟩
  | .hbm, ⟨81, _⟩ => ⟨S32768x8, .f32⟩
  | .hbm, ⟨82, _⟩ => ⟨S_, .i32⟩
  | .hbm, ⟨83, _⟩ => ⟨S_, .f32⟩
  | .hbm, ⟨84, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_c : Ref sig .tc := ⟨.hbm, 82, rfl⟩
abbrev main_call0_v0 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Proof.Step.lean ====
/- One step of the online softmax, as the kernel's pure functions of the vectors it has loaded: for one head map and
   one run of 128 keys, the new maximum, the new denominator and the new accumulator. The sixteen steps of a trip of
   the loop are these three functions at sixteen sets of loaded vectors. -/
module

public import proofs.«01_k».proof.Proof.Gen.KernelIdeal.Value
public import Idealize.ShloMosaic.Lib.VecWindow

@[expose] public section

set_option maxRecDepth 16384

noncomputable section

namespace Cert.KernelIdeal.Diff

open Cert.KernelIdeal Cert.KernelIdeal.Gen Idealize.ShloMosaic Idealize.ShloMosaic.TcCoe Idealize.SL.Sem

variable {F : FTy → Type} [FloatOps F] [Named F]

/-- The scores of 128 keys against 256 queries of one head map: the products plus the scaled bias. -/
def scores (kp : Vec F S128x128 .bf16) (qh : Vec F S1x256x128 .bf16) (bt : Vec F S1x1x128x256 .f32) : FVec F S128x256 .f32 :=
  k0_pay4 kp qh bt

/-- The new running maximum of each query. -/
def maxNew (kp : Vec F S128x128 .bf16) (qh : Vec F S1x256x128 .bf16) (bt : Vec F S1x1x128x256 .f32)
    (m : Vec F S1x1x256 .f32) : FVec F S1x1x256 .f32 :=
  k0_pay11 (k0_pay6 kp qh bt m)

/-- The new denominator of each query: the old one rescaled, plus the sum of the new weights. -/
def denNew (kp : Vec F S128x128 .bf16) (qh : Vec F S1x256x128 .bf16) (bt : Vec F S1x1x128x256 .f32)
    (m l : Vec F S1x1x256 .f32) : FVec F S1x1x256 .f32 :=
  k0_pay10 (k0_pay9 kp qh bt m l)

/-- The new accumulator: the old one rescaled, plus the values weighted. -/
def accNew (kp : Vec F S128x128 .bf16) (vp : Vec F S1x128x128 .bf16) (qh : Vec F S1x256x128 .bf16)
    (bt : Vec F S1x1x128x256 .f32) (m : Vec F S1x1x256 .f32) (a : Vec F S1x128x256 .f32) : FVec F S1x128x256 .f32 :=
  k0_pay12 (k0_pay3 vp) (k0_pay7 kp qh bt m) (k0_pay8 kp qh bt m) a

end Cert.KernelIdeal.Diff
-- ==== Proof.Trip.lean ====
/- The pieces that one trip of the key loop writes into the running maximum, the denominator and the accumulator, as
   one recursion over the trip's sixteen steps (step `n` is head map `n % 8` on the trip's half `n / 8`). -/
module

public import proofs.«01_k».proof.Proof.Step

@[expose] public section

set_option maxRecDepth 16384

noncomputable section

namespace Cert.KernelIdeal.Diff

open Cert.KernelIdeal Cert.KernelIdeal.Gen Idealize.ShloMosaic Idealize.ShloMosaic.TcCoe Idealize.SL.Sem

variable {F : FTy → Type} [FloatOps F] [Named F]

/-- Row `n % 8` of a statistics buffer. -/
abbrev statRect (n : ℕ) : Rect S8x1x256 :=
  Rect.unit (s := S8x1x256) ![n % 8, 0, 0] S1x1x256.size (fun a => by
    have : n % 8 < 8 := Nat.mod_lt _ (by decide)
    fin_cases a <;> simp [Shape.size] <;> omega)

/-- Slice `n % 8` of the accumulator. -/
abbrev accRect (n : ℕ) : Rect S8x128x256 :=
  Rect.unit (s := S8x128x256) ![n % 8, 0, 0] S1x128x256.size (fun a => by
    have : n % 8 < 8 := Nat.mod_lt _ (by decide)
    fin_cases a <;> simp [Shape.size] <;> omega)

/-- Slice `n % 8` of the split queries. -/
abbrev qRect (n : ℕ) : Rect S8x256x128 :=
  Rect.unit (s := S8x256x128) ![n % 8, 0, 0] S1x256x128.size (fun a => by
    have : n % 8 < 8 := Nat.mod_lt _ (by decide)
    fin_cases a <;> simp [Shape.size] <;> omega)

section Pieces

variable (i : grid0.Coords) (k : Fin (k0_t1_loop i).trips)

/-- Where step `n` loads its 128 keys of its head pair, as the program computes it. -/
def keyOff : ℕ → Fin 2 → ℕ
  | 0 | 1 => k0_off1 i k 0#32
  | 2 | 3 => k0_off5 i k 0#32
  | 4 | 5 => k0_off9 i k 0#32
  | 6 | 7 => k0_off13 i k 0#32
  | 8 | 9 => k0_off1 i k 128#32
  | 10 | 11 => k0_off5 i k 128#32
  | 12 | 13 => k0_off9 i k 128#32
  | _ => k0_off13 i k 128#32

theorem keyOff_inb (n : ℕ) : ∀ a, keyOff i k n a + S128x128.size a ≤ S4096x512.size a := by
  unfold keyOff
  split
  all_goals first
    | exact k0_off1_inb i k 0 | exact k0_off5_inb i k 0 | exact k0_off9_inb i k 0 | exact k0_off13_inb i k 0
    | exact k0_off1_inb i k 1 | exact k0_off5_inb i k 1 | exact k0_off9_inb i k 1 | exact k0_off13_inb i k 1

/-- Where step `n` loads its 128 columns of values of its head pair. -/
def valOff : ℕ → Fin 3 → ℕ
  | 0 | 1 => k0_off2 i k
  | 2 | 3 => k0_off6 i k
  | 4 | 5 => k0_off10 i k
  | 6 | 7 => k0_off14 i k
  | 8 | 9 => k0_off17 i k
  | 10 | 11 => k0_off20 i k
  | 12 | 13 => k0_off23 i k
  | _ => k0_off26 i k

theorem valOff_inb (n : ℕ) : ∀ a, valOff i k n a + S1x128x128.size a ≤ S16x512x256.size a := by
  unfold valOff
  split
  all_goals first
    | exact k0_off2_inb i k | exact k0_off6_inb i k | exact k0_off10_inb i k | exact k0_off14_inb i k
    | exact k0_off17_inb i k | exact k0_off20_inb i k | exact k0_off23_inb i k | exact k0_off26_inb i k

/-- Where step `n` loads its rows of its head map's bias tile. -/
def biasOff : ℕ → Fin 4 → ℕ
  | 0 => k0_off3 i k | 1 => k0_off4 i k | 2 => k0_off7 i k | 3 => k0_off8 i k
  | 4 => k0_off11 i k | 5 => k0_off12 i k | 6 => k0_off15 i k | 7 => k0_off16 i k
  | 8 => k0_off18 i k | 9 => k0_off19 i k | 10 => k0_off21 i k | 11 => k0_off22 i k
  | 12 => k0_off24 i k | 13 => k0_off25 i k | 14 => k0_off27 i k | _ => k0_off28 i k

theorem biasOff_inb (n : ℕ) : ∀ a, biasOff i k n a + S1x1x128x256.size a ≤ S3x8x256x256.size a := by
  unfold biasOff
  split
  all_goals first
    | exact k0_off3_inb i k | exact k0_off4_inb i k | exact k0_off7_inb i k | exact k0_off8_inb i k
    | exact k0_off11_inb i k | exact k0_off12_inb i k | exact k0_off15_inb i k | exact k0_off16_inb i k
    | exact k0_off18_inb i k | exact k0_off19_inb i k | exact k0_off21_inb i k | exact k0_off22_inb i k
    | exact k0_off24_inb i k | exact k0_off25_inb i k | exact k0_off27_inb i k | exact k0_off28_inb i k

variable (arg4 : Memref sig .tc .vmem S4096x512 .bf16) (arg5 : Memref sig .tc .vmem S16x512x256 .bf16)
  (arg6 : Memref sig .tc .vmem S3x8x256x256 .f32) (arg9 : Memref sig .tc .vmem S8x256x128 .bf16)
  (arg10 : Memref sig .tc .vmem S8x1x256 .f32) (arg11 : Memref sig .tc .vmem S8x1x256 .f32)
  (arg12 : Memref sig .tc .vmem S8x128x256 .f32)
  (X4 : BufTy.Contents (Elt F) arg4.view.ty) (X5 : BufTy.Contents (Elt F) arg5.view.ty)
  (X6 : BufTy.Contents (Elt F) arg6.view.ty) (X9 : BufTy.Contents (Elt F) arg9.view.ty)
  (f10 : BufTy.Contents (Elt F) arg10.view.ty) (f11 : BufTy.Contents (Elt F) arg11.view.ty)
  (f12 : BufTy.Contents (Elt F) arg12.view.ty)

/-- Step `n`'s keys. -/
abbrev keyAt (n : ℕ) : Vec F S128x128 .bf16 :=
  View.readAt (Elt F) arg4.view (Rect.unit (s := S4096x512) (keyOff i k n) S128x128.size (keyOff_inb i k n)).toLoadRect X4
/-- Step `n`'s values. -/
abbrev valAt (n : ℕ) : Vec F S1x128x128 .bf16 :=
  View.readAt (Elt F) arg5.view (Rect.unit (s := S16x512x256) (valOff i k n) S1x128x128.size (valOff_inb i k n)).toLoadRect X5
/-- Step `n`'s bias rows. -/
abbrev biasAt (n : ℕ) : Vec F S1x1x128x256 .f32 :=
  View.readAt (Elt F) arg6.view (Rect.unit (s := S3x8x256x256) (biasOff i k n) S1x1x128x256.size (biasOff_inb i k n)).toLoadRect X6
/-- Step `n`'s queries. -/
abbrev qryAt (n : ℕ) : Vec F S1x256x128 .bf16 :=
  View.readAt (Elt F) arg9.view (qRect n).toLoadRect X9

/-- A row of a buffer at the step `n` of a trip: what the trip found there on the first half, what the trip's own
    pieces `L` left there on the second. -/
abbrev rowAt {s : Shape} {e : EltTy} (m : Memref sig .tc .vmem s e) (f : BufTy.Contents (Elt F) m.view.ty)
    (L : List (View.Piece (Elt F) s e)) (r : Rect s) (n : ℕ) : r.shape.Idx → Elt F e :=
  if n < 8 then View.readAt (Elt F) m.view r.toLoadRect f else m.view.readCov L r.toLoadRect

/-- The pieces of the first `n` steps in the running maximum, last first. -/
def maxPieces : ℕ → List (View.Piece (Elt F) S8x1x256 .f32)
  | 0 => []
  | n + 1 => ⟨statRect n, maxNew (keyAt i k arg4 X4 n) (qryAt arg9 X9 n) (biasAt i k arg6 X6 n)
      (rowAt arg10 f10 (maxPieces n) (statRect n) n)⟩ :: maxPieces n

/-- The pieces of the first `n` steps in the denominator, last first. -/
def denPieces : ℕ → List (View.Piece (Elt F) S8x1x256 .f32)
  | 0 => []
  | n + 1 => ⟨statRect n, denNew (keyAt i k arg4 X4 n) (qryAt arg9 X9 n) (biasAt i k arg6 X6 n)
      (rowAt arg10 f10 (maxPieces i k arg4 arg6 arg9 arg10 X4 X6 X9 f10 n) (statRect n) n)
      (rowAt arg11 f11 (denPieces n) (statRect n) n)⟩ :: denPieces n

/-- The pieces of the first `n` steps in the accumulator, last first. -/
def accPieces : ℕ → List (View.Piece (Elt F) S8x128x256 .f32)
  | 0 => []
  | n + 1 => ⟨accRect n, accNew (keyAt i k arg4 X4 n) (valAt i k arg5 X5 n) (qryAt arg9 X9 n) (biasAt i k arg6 X6 n)
      (rowAt arg10 f10 (maxPieces i k arg4 arg6 arg9 arg10 X4 X6 X9 f10 n) (statRect n) n)
      (rowAt arg12 f12 (accPieces n) (accRect n) n)⟩ :: accPieces n

variable (𝒱 : Variants) (c : Dev nD) (bd : Option 𝒱.V) (arg2 : Memref sig .tc .smem S1 .f32) (harg2 : arg2.IsWhole)
  (arg3 : Memref sig .tc .vmem S256x512 .f32) (harg3 : arg3.IsWhole) (harg4 : arg4.IsWhole) (harg5 : arg5.IsWhole)
  (harg6 : arg6.IsWhole) (arg7 : Memref sig .tc .vmem S1x128 .f32) (harg7 : arg7.IsWhole)
  (arg8 : Memref sig .tc .vmem S256x512 .bf16) (harg8 : arg8.IsWhole) (harg9 : arg9.IsWhole) (harg10 : arg10.IsWhole)
  (harg11 : arg11.IsWhole) (harg12 : arg12.IsWhole) (arg1 : BitVec 32) (v63 : FVec F S8x1x256 .f32)

set_option maxHeartbeats 4000000 in
/-- The trip's pieces in the running maximum are the sixteen steps' pieces. -/
theorem trip_max : (tripL_k0_t1 (F := F) 𝒱 c bd i arg2 harg2 arg3 harg3 arg4 harg4 arg5 harg5 arg6 harg6 arg7 harg7 arg8 harg8 arg9 harg9 arg10 harg10 arg11 harg11 arg12 harg12 arg1 v63 X4 X5 X6 X9 k f10 f11 f12).1
    = maxPieces i k arg4 arg6 arg9 arg10 X4 X6 X9 f10 16 := by
  unfold tripL_k0_t1 trip_k0_t1
  rfl

set_option maxHeartbeats 4000000 in
/-- The trip's pieces in the denominator are the sixteen steps' pieces. -/
theorem trip_den : (tripL_k0_t1 (F := F) 𝒱 c bd i arg2 harg2 arg3 harg3 arg4 harg4 arg5 harg5 arg6 harg6 arg7 harg7 arg8 harg8 arg9 harg9 arg10 harg10 arg11 harg11 arg12 harg12 arg1 v63 X4 X5 X6 X9 k f10 f11 f12).2.1
    = denPieces i k arg4 arg6 arg9 arg10 arg11 X4 X6 X9 f10 f11 16 := by
  unfold tripL_k0_t1 trip_k0_t1
  rfl

set_option maxHeartbeats 4000000 in
/-- The trip's pieces in the accumulator are the sixteen steps' pieces. -/
theorem trip_acc : (tripL_k0_t1 (F := F) 𝒱 c bd i arg2 harg2 arg3 harg3 arg4 harg4 arg5 harg5 arg6 harg6 arg7 harg7 arg8 harg8 arg9 harg9 arg10 harg10 arg11 harg11 arg12 harg12 arg1 v63 X4 X5 X6 X9 k f10 f11 f12).2.2
    = accPieces i k arg4 arg5 arg6 arg9 arg10 arg12 X4 X5 X6 X9 f10 f12 16 := by
  unfold tripL_k0_t1 trip_k0_t1
  rfl

end Pieces

end Cert.KernelIdeal.Diff
-- ==== Proof.Offsets.lean ====
/- Where a trip's loads lie, as numbers: the keys, the values and the bias rows of step `n` of trip `k`. -/
module

public import proofs.«01_k».proof.Proof.Trip

@[expose] public section

set_option maxRecDepth 16384

noncomputable section

namespace Cert.KernelIdeal.Diff

open Cert.KernelIdeal Cert.KernelIdeal.Gen Idealize.ShloMosaic Idealize.ShloMosaic.TcCoe Idealize.SL.Sem

/-- Query block `i` takes `i + 1` trips. -/
theorem trips_eq : ∀ i : grid0.Coords, (k0_t1_loop i).trips = (i 1).val + 1 := by decide +kernel

/-- Nothing is left for the second loop. -/
theorem trips2_eq : ∀ i : grid0.Coords, (k0_t2_loop i).trips = 0 := by decide +kernel

theorem keyOff_eq : ∀ (i : grid0.Coords) (k : Fin (k0_t1_loop i).trips) (n : Fin 16),
    keyOff i k n.val = ![256 * k.val + 128 * (n.val / 8), 128 * (n.val % 8 / 2)] := by decide +kernel

theorem valOff_eq : ∀ (i : grid0.Coords) (k : Fin (k0_t1_loop i).trips) (n : Fin 16),
    valOff i k n.val = ![k.val, 128 * (n.val % 8 / 2), 128 * (n.val / 8)] := by decide +kernel

theorem biasOff_eq : ∀ (i : grid0.Coords) (k : Fin (k0_t1_loop i).trips) (n : Fin 16),
    biasOff i k n.val = ![min ((i 1).val - k.val) 2, n.val % 8, 128 * (n.val / 8), 0] := by decide +kernel

end Cert.KernelIdeal.Diff
-- ==== Proof.Rows.lean ====
/- Reading one box of a buffer after a list of writes to boxes: the box just written holds the payload, a box apart
   from it what was there before; and of a list whose `n`-th write fills box `n % 8`, the box holds the last payload
   written to it. -/
module

public import Idealize.ShloMosaic.Lib.VecWindow

@[expose] public section

noncomputable section

namespace Cert.KernelIdeal.Diff

open Idealize.ShloMosaic Idealize.ShloMosaic.View Idealize.ShloMosaic.VecWindow

variable {sig : RefSig} {κ : Kind} {sp : Space} {s : Shape} {e : EltTy} {Val : EltTy → Type}

/-- After a box is written, reading it gives the payload. -/
theorem slice_same (v : View sig κ sp s e) (f : v.ty.Contents Val) (off off' size : Fin s.rank → ℕ)
    (inb : ∀ a, off a + size a ≤ s.size a) (inb' : ∀ a, off' a + size a ≤ s.size a) (h : off' = off)
    (w : (Rect.unit off size inb).shape.Idx → Val e) (L : List (Piece Val s e)) :
    v.readAt Val (Rect.unit off' size inb').toLoadRect (v.writes Val f ((⟨Rect.unit off size inb, w⟩ : Piece Val s e) :: L)) = w := by
  subst h
  rw [readAt_unit v _ inb rfl inb, read_writes_cons_put v f inb w L rfl, window_put_same]

/-- After a box apart from it is written, reading a box gives what was there. -/
theorem slice_other (v : View sig κ sp s e) (f : v.ty.Contents Val) (off off' size : Fin s.rank → ℕ)
    (inb : ∀ a, off a + size a ≤ s.size a) (inb' : ∀ a, off' a + size a ≤ s.size a) (a : Fin s.rank)
    (ha : off' a + size a ≤ off a ∨ off a + size a ≤ off' a)
    (w : (Rect.unit off size inb).shape.Idx → Val e) (L : List (Piece Val s e)) :
    v.readAt Val (Rect.unit off' size inb').toLoadRect (v.writes Val f ((⟨Rect.unit off size inb, w⟩ : Piece Val s e) :: L))
      = v.readAt Val (Rect.unit off' size inb').toLoadRect (v.writes Val f L) := by
  rw [readAt_unit v _ inb' rfl inb', read_writes_cons_put v f inb w L rfl, window_put_of_disjoint _ _ _ _ _ _ _ a ha,
    ← readAt_unit v _ inb' rfl inb']

/-- Step `n`'s payload is what its box holds until step `n + 8`. -/
theorem slice_recent (v : View sig κ sp s e) (f : v.ty.Contents Val) (off : ℕ → Fin s.rank → ℕ) (size : Fin s.rank → ℕ)
    (inb : ∀ n a, off n a + size a ≤ s.size a) (a : Fin s.rank) (hs : size a = 1) (ho : ∀ n, off n a = n % 8)
    (hoff : ∀ n n', n' % 8 = n % 8 → off n' = off n)
    (P : ℕ → List (Piece Val s e)) (w : ∀ n, (Rect.unit (off n) size (inb n)).shape.Idx → Val e)
    (hP : ∀ n, P (n + 1) = (⟨Rect.unit (off n) size (inb n), w n⟩ : Piece Val s e) :: P n) (n n' : ℕ) (h : n' % 8 = n % 8) :
    ∀ d : ℕ, d < 8 → v.readAt Val (Rect.unit (off n') size (inb n')).toLoadRect (v.writes Val f (P (n + 1 + d))) = w n
  | 0, _ => by rw [Nat.add_zero, hP]; exact slice_same v f _ _ _ _ _ (hoff n n' h) _ _
  | d + 1, hd => by
    rw [← Nat.add_assoc, hP, slice_other v f _ _ _ _ _ a (by rw [hs, ho, ho]; omega)]
    exact slice_recent v f off size inb a hs ho hoff P w hP n n' h d (by omega)

/-- Until step `c + 1`, box `c % 8` holds what it held at the start. -/
theorem slice_before (v : View sig κ sp s e) (f : v.ty.Contents Val) (off : ℕ → Fin s.rank → ℕ) (size : Fin s.rank → ℕ)
    (inb : ∀ n a, off n a + size a ≤ s.size a) (a : Fin s.rank) (hs : size a = 1) (ho : ∀ n, off n a = n % 8)
    (P : ℕ → List (Piece Val s e)) (w : ∀ n, (Rect.unit (off n) size (inb n)).shape.Idx → Val e) (h0 : P 0 = [])
    (hP : ∀ n, P (n + 1) = (⟨Rect.unit (off n) size (inb n), w n⟩ : Piece Val s e) :: P n) (c : ℕ) (hc : c < 8) :
    ∀ d : ℕ, d ≤ c → v.readAt Val (Rect.unit (off c) size (inb c)).toLoadRect (v.writes Val f (P d))
      = v.readAt Val (Rect.unit (off c) size (inb c)).toLoadRect f
  | 0, _ => by rw [h0]; rfl
  | d + 1, hd => by
    rw [hP, slice_other v f _ _ _ _ _ a (by rw [hs, ho, ho]; omega)]
    exact slice_before v f off size inb a hs ho P w h0 hP c hc d (by omega)

end Cert.KernelIdeal.Diff
-- ==== Proof.Loop.lean ====
/- What the key loop leaves in the running maximum, the denominator and the accumulator of one head map: the step of
   Step.lean iterated over the runs of 128 keys. -/
module

public import proofs.«01_k».proof.Proof.Offsets
public import proofs.«01_k».proof.Proof.Rows
public import Idealize.ShloMosaic.Lib.Pointwise.Index

@[expose] public section

set_option maxRecDepth 16384

noncomputable section

namespace Cert.KernelIdeal.Diff

open Cert.KernelIdeal Cert.KernelIdeal.Gen Idealize.ShloMosaic Idealize.ShloMosaic.TcCoe Idealize.SL.Sem

variable {F : FTy → Type} [FloatOps F] [Named F]

/-- Run `u` of 128 keys, of head map `c`. -/
def keySub (x : S4096x512.Idx → Elt F .bf16) (c u : ℕ) : Vec F S128x128 .bf16 := fun y =>
  x (ix2 (⟨(128 * u + (y 0).val) % 4096, Nat.mod_lt _ (by decide)⟩ : Fin 4096)
    (⟨(128 * (c / 2) + (y 1).val) % 512, Nat.mod_lt _ (by decide)⟩ : Fin 512))

/-- The values of run `u`, of head map `c`. -/
def valSub (x : S16x512x256.Idx → Elt F .bf16) (c u : ℕ) : Vec F S1x128x128 .bf16 := fun y =>
  x (ix3 (⟨(u / 2) % 16, Nat.mod_lt _ (by decide)⟩ : Fin 16)
    (⟨(128 * (c / 2) + (y 1).val) % 512, Nat.mod_lt _ (by decide)⟩ : Fin 512)
    (⟨(128 * (u % 2) + (y 2).val) % 256, Nat.mod_lt _ (by decide)⟩ : Fin 256))

/-- The bias of run `u` against query block `b`, of head map `c`. -/
def biasSub (x : S3x8x256x256.Idx → Elt F .f32) (b c u : ℕ) : Vec F S1x1x128x256 .f32 := fun y =>
  x (ix4 (⟨min (b - u / 2) 2, Nat.lt_of_le_of_lt (Nat.min_le_right _ _) (by decide)⟩ : Fin 3)
    (⟨c % 8, Nat.mod_lt _ (by decide)⟩ : Fin 8)
    (⟨(128 * (u % 2) + (y 2).val) % 256, Nat.mod_lt _ (by decide)⟩ : Fin 256) (y 3 : Fin 256))

/-- The queries of head map `c`. -/
def qrySub (x : S8x256x128.Idx → Elt F .bf16) (c : ℕ) : Vec F S1x256x128 .bf16 := fun y =>
  x (ix3 (⟨c % 8, Nat.mod_lt _ (by decide)⟩ : Fin 8) (y 1 : Fin 256) (y 2 : Fin 128))

section Runs

variable (b c : ℕ) (x4 : S4096x512.Idx → Elt F .bf16) (x5 : S16x512x256.Idx → Elt F .bf16)
  (x6 : S3x8x256x256.Idx → Elt F .f32) (x9 : S8x256x128.Idx → Elt F .bf16)

/-- The maximum after `u` runs of keys. -/
def runMax (m0 : Vec F S1x1x256 .f32) : ℕ → Vec F S1x1x256 .f32
  | 0 => m0
  | u + 1 => maxNew (keySub x4 c u) (qrySub x9 c) (biasSub x6 b c u) (runMax m0 u)

/-- The denominator after `u` runs of keys. -/
def runDen (m0 l0 : Vec F S1x1x256 .f32) : ℕ → Vec F S1x1x256 .f32
  | 0 => l0
  | u + 1 => denNew (keySub x4 c u) (qrySub x9 c) (biasSub x6 b c u) (runMax b c x4 x6 x9 m0 u) (runDen m0 l0 u)

/-- The accumulator after `u` runs of keys. -/
def runAcc (m0 : Vec F S1x1x256 .f32) (a0 : Vec F S1x128x256 .f32) : ℕ → Vec F S1x128x256 .f32
  | 0 => a0
  | u + 1 => accNew (keySub x4 c u) (valSub x5 c u) (qrySub x9 c) (biasSub x6 b c u) (runMax b c x4 x6 x9 m0 u) (runAcc m0 a0 u)

end Runs

section Windows

variable (i : grid0.Coords) (k : Fin (k0_t1_loop i).trips) (arg4 : Memref sig .tc .vmem S4096x512 .bf16)
  (arg5 : Memref sig .tc .vmem S16x512x256 .bf16) (arg6 : Memref sig .tc .vmem S3x8x256x256 .f32)
  (arg9 : Memref sig .tc .vmem S8x256x128 .bf16)
  (X4 : BufTy.Contents (Elt F) arg4.view.ty) (X5 : BufTy.Contents (Elt F) arg5.view.ty)
  (X6 : BufTy.Contents (Elt F) arg6.view.ty) (X9 : BufTy.Contents (Elt F) arg9.view.ty)

theorem k_lt : k.val ≤ (i 1).val ∧ k.val < 16 := by
  have h1 : k.val < (i 1).val + 1 := Nat.lt_of_lt_of_eq k.isLt (trips_eq i)
  have h2 : (i 1).val < 16 := (i 1).isLt
  omega

theorem keyAt_eq (n : ℕ) (hn : n < 16) :
    keyAt i k arg4 X4 n = keySub (arg4.view.read (Elt F) X4) (n % 8) (2 * k.val + n / 8) := by
  have h := keyOff_eq i k ⟨n, hn⟩
  have hk := (k_lt i k).2
  funext y
  unfold keyAt keySub
  rw [View.readAt_apply]
  refine congrArg (arg4.view.read (Elt F) X4) (funext fun a => Fin.ext ?_)
  show keyOff i k n a + 1 * (y a).val = _
  rw [h]
  have h0 : (y 0).val < 128 := (y 0).isLt
  have h1 : (y 1).val < 128 := (y 1).isLt
  match a with
  | ⟨0, _⟩ =>
    show 256 * k.val + 128 * (n / 8) + 1 * (y 0).val = (128 * (2 * k.val + n / 8) + (y 0).val) % 4096
    omega
  | ⟨1, _⟩ =>
    show 128 * (n % 8 / 2) + 1 * (y 1).val = (128 * (n % 8 / 2) + (y 1).val) % 512
    omega

theorem valAt_eq (n : ℕ) (hn : n < 16) :
    valAt i k arg5 X5 n = valSub (arg5.view.read (Elt F) X5) (n % 8) (2 * k.val + n / 8) := by
  have h := valOff_eq i k ⟨n, hn⟩
  have hk := (k_lt i k).2
  funext y
  unfold valAt valSub
  rw [View.readAt_apply]
  refine congrArg (arg5.view.read (Elt F) X5) (funext fun a => Fin.ext ?_)
  show valOff i k n a + 1 * (y a).val = _
  rw [h]
  have h0 : (y 0).val < 1 := (y 0).isLt
  have h1 : (y 1).val < 128 := (y 1).isLt
  have h2 : (y 2).val < 128 := (y 2).isLt
  match a with
  | ⟨0, _⟩ =>
    show k.val + 1 * (y 0).val = (2 * k.val + n / 8) / 2 % 16
    omega
  | ⟨1, _⟩ =>
    show 128 * (n % 8 / 2) + 1 * (y 1).val = (128 * (n % 8 / 2) + (y 1).val) % 512
    omega
  | ⟨2, _⟩ =>
    show 128 * (n / 8) + 1 * (y 2).val = (128 * ((2 * k.val + n / 8) % 2) + (y 2).val) % 256
    omega

theorem biasAt_eq (n : ℕ) (hn : n < 16) :
    biasAt i k arg6 X6 n = biasSub (arg6.view.read (Elt F) X6) (i 1).val (n % 8) (2 * k.val + n / 8) := by
  have h := biasOff_eq i k ⟨n, hn⟩
  have hk := (k_lt i k).2
  funext y
  unfold biasAt biasSub
  rw [View.readAt_apply]
  refine congrArg (arg6.view.read (Elt F) X6) (funext fun a => Fin.ext ?_)
  show biasOff i k n a + 1 * (y a).val = _
  rw [h]
  have h0 : (y 0).val < 1 := (y 0).isLt
  have h1 : (y 1).val < 1 := (y 1).isLt
  have h2 : (y 2).val < 128 := (y 2).isLt
  match a with
  | ⟨0, _⟩ =>
    show min ((i 1).val - k.val) 2 + 1 * (y 0).val = min ((i 1).val - (2 * k.val + n / 8) / 2) 2
    have : (2 * k.val + n / 8) / 2 = k.val := by omega
    rw [this]
    omega
  | ⟨1, _⟩ =>
    show n % 8 + 1 * (y 1).val = n % 8 % 8
    omega
  | ⟨2, _⟩ =>
    show 128 * (n / 8) + 1 * (y 2).val = (128 * ((2 * k.val + n / 8) % 2) + (y 2).val) % 256
    omega
  | ⟨3, _⟩ =>
    show 0 + 1 * (y 3).val = (y 3).val
    omega

theorem qryAt_eq (n : ℕ) : qryAt arg9 X9 n = qrySub (arg9.view.read (Elt F) X9) (n % 8) := by
  funext y
  unfold qryAt qrySub
  rw [View.readAt_apply]
  refine congrArg (arg9.view.read (Elt F) X9) (funext fun a => Fin.ext ?_)
  have h0 : (y 0).val < 1 := (y 0).isLt
  match a with
  | ⟨0, _⟩ =>
    show n % 8 + 1 * (y 0).val = n % 8 % 8
    omega
  | ⟨1, _⟩ =>
    show 0 + 1 * (y 1).val = (y 1).val
    omega
  | ⟨2, _⟩ =>
    show 0 + 1 * (y 2).val = (y 2).val
    omega

end Windows

section Trips

variable (i : grid0.Coords) (k : Fin (k0_t1_loop i).trips) (arg4 : Memref sig .tc .vmem S4096x512 .bf16)
  (arg5 : Memref sig .tc .vmem S16x512x256 .bf16)
  (arg6 : Memref sig .tc .vmem S3x8x256x256 .f32) (arg9 : Memref sig .tc .vmem S8x256x128 .bf16)
  (arg10 : Memref sig .tc .vmem S8x1x256 .f32) (arg11 : Memref sig .tc .vmem S8x1x256 .f32)
  (arg12 : Memref sig .tc .vmem S8x128x256 .f32)
  (X4 : BufTy.Contents (Elt F) arg4.view.ty) (X5 : BufTy.Contents (Elt F) arg5.view.ty)
  (X6 : BufTy.Contents (Elt F) arg6.view.ty) (X9 : BufTy.Contents (Elt F) arg9.view.ty)
  (f10 : BufTy.Contents (Elt F) arg10.view.ty) (f11 : BufTy.Contents (Elt F) arg11.view.ty)
  (f12 : BufTy.Contents (Elt F) arg12.view.ty)

/-- What step `n` writes into its row of the maximum. -/
abbrev maxW (n : ℕ) : Vec F S1x1x256 .f32 :=
  maxNew (keyAt i k arg4 X4 n) (qryAt arg9 X9 n) (biasAt i k arg6 X6 n)
    (rowAt arg10 f10 (maxPieces i k arg4 arg6 arg9 arg10 X4 X6 X9 f10 n) (statRect n) n)
/-- What step `n` writes into its row of the denominator. -/
abbrev denW (n : ℕ) : Vec F S1x1x256 .f32 :=
  denNew (keyAt i k arg4 X4 n) (qryAt arg9 X9 n) (biasAt i k arg6 X6 n)
    (rowAt arg10 f10 (maxPieces i k arg4 arg6 arg9 arg10 X4 X6 X9 f10 n) (statRect n) n)
    (rowAt arg11 f11 (denPieces i k arg4 arg6 arg9 arg10 arg11 X4 X6 X9 f10 f11 n) (statRect n) n)
/-- What step `n` writes into its slice of the accumulator. -/
abbrev accW (n : ℕ) : Vec F S1x128x256 .f32 :=
  accNew (keyAt i k arg4 X4 n) (valAt i k arg5 X5 n) (qryAt arg9 X9 n) (biasAt i k arg6 X6 n)
    (rowAt arg10 f10 (maxPieces i k arg4 arg6 arg9 arg10 X4 X6 X9 f10 n) (statRect n) n)
    (rowAt arg12 f12 (accPieces i k arg4 arg5 arg6 arg9 arg10 arg12 X4 X5 X6 X9 f10 f12 n) (accRect n) n)

theorem statRect_inb (n : ℕ) : ∀ a, (![n % 8, 0, 0] : Fin 3 → ℕ) a + S1x1x256.size a ≤ S8x1x256.size a := fun a => by
  have : n % 8 < 8 := Nat.mod_lt _ (by decide)
  fin_cases a <;> simp [Shape.size] <;> omega

theorem accRect_inb (n : ℕ) : ∀ a, (![n % 8, 0, 0] : Fin 3 → ℕ) a + S1x128x256.size a ≤ S8x128x256.size a := fun a => by
  have : n % 8 < 8 := Nat.mod_lt _ (by decide)
  fin_cases a <;> simp [Shape.size] <;> omega

theorem max_late (g : BufTy.Contents (Elt F) arg10.view.ty) (n n' : ℕ) (h : n' % 8 = n % 8) (N d : ℕ) (hd : d < 8) (hN : N = n + 1 + d) :
    View.readAt (Elt F) arg10.view (statRect n').toLoadRect (arg10.view.writes (Elt F) g ((maxPieces i k arg4 arg6 arg9 arg10 X4 X6 X9 f10) N)) = (maxW i k arg4 arg6 arg9 arg10 X4 X6 X9 f10) n := by
  subst hN
  exact slice_recent (s := S8x1x256) arg10.view g (fun n => ![n % 8, 0, 0]) S1x1x256.size (fun n => (statRect_inb n)) (0 : Fin 3) rfl
    (fun _ => rfl) (fun n n' h => by show (![n' % 8, 0, 0] : Fin 3 → ℕ) = ![n % 8, 0, 0]; rw [h]) ((maxPieces i k arg4 arg6 arg9 arg10 X4 X6 X9 f10)) ((maxW i k arg4 arg6 arg9 arg10 X4 X6 X9 f10)) (fun _ => rfl) n n' h d hd

theorem max_row_first (c : ℕ) (hc : c < 8) :
    rowAt arg10 f10 ((maxPieces i k arg4 arg6 arg9 arg10 X4 X6 X9 f10) c) (statRect c) c = View.readAt (Elt F) arg10.view (statRect c).toLoadRect f10 := if_pos hc

theorem max_row_second (c : ℕ) (hc : c < 8) :
    rowAt arg10 f10 ((maxPieces i k arg4 arg6 arg9 arg10 X4 X6 X9 f10) (8 + c)) (statRect (8 + c)) (8 + c) = (maxW i k arg4 arg6 arg9 arg10 X4 X6 X9 f10) c :=
  (if_neg (by omega)).trans (max_late i k arg4 arg6 arg9 arg10 X4 X6 X9 f10 arg10.view.junk c (8 + c) (by omega) (8 + c) 7 (by decide) (by omega))

theorem den_late (g : BufTy.Contents (Elt F) arg11.view.ty) (n n' : ℕ) (h : n' % 8 = n % 8) (N d : ℕ) (hd : d < 8) (hN : N = n + 1 + d) :
    View.readAt (Elt F) arg11.view (statRect n').toLoadRect (arg11.view.writes (Elt F) g ((denPieces i k arg4 arg6 arg9 arg10 arg11 X4 X6 X9 f10 f11) N)) = (denW i k arg4 arg6 arg9 arg10 arg11 X4 X6 X9 f10 f11) n := by
  subst hN
  exact slice_recent (s := S8x1x256) arg11.view g (fun n => ![n % 8, 0, 0]) S1x1x256.size (fun n => (statRect_inb n)) (0 : Fin 3) rfl
    (fun _ => rfl) (fun n n' h => by show (![n' % 8, 0, 0] : Fin 3 → ℕ) = ![n % 8, 0, 0]; rw [h]) ((denPieces i k arg4 arg6 arg9 arg10 arg11 X4 X6 X9 f10 f11)) ((denW i k arg4 arg6 arg9 arg10 arg11 X4 X6 X9 f10 f11)) (fun _ => rfl) n n' h d hd

theorem den_row_first (c : ℕ) (hc : c < 8) :
    rowAt arg11 f11 ((denPieces i k arg4 arg6 arg9 arg10 arg11 X4 X6 X9 f10 f11) c) (statRect c) c = View.readAt (Elt F) arg11.view (statRect c).toLoadRect f11 := if_pos hc

theorem den_row_second (c : ℕ) (hc : c < 8) :
    rowAt arg11 f11 ((denPieces i k arg4 arg6 arg9 arg10 arg11 X4 X6 X9 f10 f11) (8 + c)) (statRect (8 + c)) (8 + c) = (denW i k arg4 arg6 arg9 arg10 arg11 X4 X6 X9 f10 f11) c :=
  (if_neg (by omega)).trans (den_late i k arg4 arg6 arg9 arg10 arg11 X4 X6 X9 f10 f11 arg11.view.junk c (8 + c) (by omega) (8 + c) 7 (by decide) (by omega))

theorem acc_late (g : BufTy.Contents (Elt F) arg12.view.ty) (n n' : ℕ) (h : n' % 8 = n % 8) (N d : ℕ) (hd : d < 8) (hN : N = n + 1 + d) :
    View.readAt (Elt F) arg12.view (accRect n').toLoadRect (arg12.view.writes (Elt F) g ((accPieces i k arg4 arg5 arg6 arg9 arg10 arg12 X4 X5 X6 X9 f10 f12) N)) = (accW i k arg4 arg5 arg6 arg9 arg10 arg12 X4 X5 X6 X9 f10 f12) n := by
  subst hN
  exact slice_recent (s := S8x128x256) arg12.view g (fun n => ![n % 8, 0, 0]) S1x128x256.size (fun n => (accRect_inb n)) (0 : Fin 3) rfl
    (fun _ => rfl) (fun n n' h => by show (![n' % 8, 0, 0] : Fin 3 → ℕ) = ![n % 8, 0, 0]; rw [h]) ((accPieces i k arg4 arg5 arg6 arg9 arg10 arg12 X4 X5 X6 X9 f10 f12)) ((accW i k arg4 arg5 arg6 arg9 arg10 arg12 X4 X5 X6 X9 f10 f12)) (fun _ => rfl) n n' h d hd

theorem acc_row_first (c : ℕ) (hc : c < 8) :
    rowAt arg12 f12 ((accPieces i k arg4 arg5 arg6 arg9 arg10 arg12 X4 X5 X6 X9 f10 f12) c) (accRect c) c = View.readAt (Elt F) arg12.view (accRect c).toLoadRect f12 := if_pos hc

theorem acc_row_second (c : ℕ) (hc : c < 8) :
    rowAt arg12 f12 ((accPieces i k arg4 arg5 arg6 arg9 arg10 arg12 X4 X5 X6 X9 f10 f12) (8 + c)) (accRect (8 + c)) (8 + c) = (accW i k arg4 arg5 arg6 arg9 arg10 arg12 X4 X5 X6 X9 f10 f12) c :=
  (if_neg (by omega)).trans (acc_late i k arg4 arg5 arg6 arg9 arg10 arg12 X4 X5 X6 X9 f10 f12 arg12.view.junk c (8 + c) (by omega) (8 + c) 7 (by decide) (by omega))

/-- The first half's payloads are one step from the rows the trip found. -/
theorem maxW_first (c : ℕ) (hc : c < 8) : (maxW i k arg4 arg6 arg9 arg10 X4 X6 X9 f10) c
    = maxNew (keyAt i k arg4 X4 c) (qryAt arg9 X9 c) (biasAt i k arg6 X6 c)
        (View.readAt (Elt F) arg10.view (statRect c).toLoadRect f10) := by
  unfold maxW
  rw [max_row_first i k arg4 arg6 arg9 arg10 X4 X6 X9 f10 c hc]
theorem denW_first (c : ℕ) (hc : c < 8) : (denW i k arg4 arg6 arg9 arg10 arg11 X4 X6 X9 f10 f11) c
    = denNew (keyAt i k arg4 X4 c) (qryAt arg9 X9 c) (biasAt i k arg6 X6 c)
        (View.readAt (Elt F) arg10.view (statRect c).toLoadRect f10)
        (View.readAt (Elt F) arg11.view (statRect c).toLoadRect f11) := by
  unfold denW
  rw [max_row_first i k arg4 arg6 arg9 arg10 X4 X6 X9 f10 c hc,
    den_row_first i k arg4 arg6 arg9 arg10 arg11 X4 X6 X9 f10 f11 c hc]
theorem accW_first (c : ℕ) (hc : c < 8) : (accW i k arg4 arg5 arg6 arg9 arg10 arg12 X4 X5 X6 X9 f10 f12) c
    = accNew (keyAt i k arg4 X4 c) (valAt i k arg5 X5 c) (qryAt arg9 X9 c) (biasAt i k arg6 X6 c)
        (View.readAt (Elt F) arg10.view (statRect c).toLoadRect f10)
        (View.readAt (Elt F) arg12.view (accRect c).toLoadRect f12) := by
  unfold accW
  rw [max_row_first i k arg4 arg6 arg9 arg10 X4 X6 X9 f10 c hc,
    acc_row_first i k arg4 arg5 arg6 arg9 arg10 arg12 X4 X5 X6 X9 f10 f12 c hc]

/-- The second half's payloads are one step from the first half's. -/
theorem maxW_second (c : ℕ) (hc : c < 8) : (maxW i k arg4 arg6 arg9 arg10 X4 X6 X9 f10) (8 + c)
    = maxNew (keyAt i k arg4 X4 (8 + c)) (qryAt arg9 X9 (8 + c)) (biasAt i k arg6 X6 (8 + c))
        (maxW i k arg4 arg6 arg9 arg10 X4 X6 X9 f10 c) := by
  rw [← max_row_second i k arg4 arg6 arg9 arg10 X4 X6 X9 f10 c hc]
theorem denW_second (c : ℕ) (hc : c < 8) : (denW i k arg4 arg6 arg9 arg10 arg11 X4 X6 X9 f10 f11) (8 + c)
    = denNew (keyAt i k arg4 X4 (8 + c)) (qryAt arg9 X9 (8 + c)) (biasAt i k arg6 X6 (8 + c))
        (maxW i k arg4 arg6 arg9 arg10 X4 X6 X9 f10 c) (denW i k arg4 arg6 arg9 arg10 arg11 X4 X6 X9 f10 f11 c) := by
  rw [← max_row_second i k arg4 arg6 arg9 arg10 X4 X6 X9 f10 c hc,
    ← den_row_second i k arg4 arg6 arg9 arg10 arg11 X4 X6 X9 f10 f11 c hc]
theorem accW_second (c : ℕ) (hc : c < 8) : (accW i k arg4 arg5 arg6 arg9 arg10 arg12 X4 X5 X6 X9 f10 f12) (8 + c)
    = accNew (keyAt i k arg4 X4 (8 + c)) (valAt i k arg5 X5 (8 + c)) (qryAt arg9 X9 (8 + c)) (biasAt i k arg6 X6 (8 + c))
        (maxW i k arg4 arg6 arg9 arg10 X4 X6 X9 f10 c) (accW i k arg4 arg5 arg6 arg9 arg10 arg12 X4 X5 X6 X9 f10 f12 c) := by
  rw [← max_row_second i k arg4 arg6 arg9 arg10 X4 X6 X9 f10 c hc,
    ← acc_row_second i k arg4 arg5 arg6 arg9 arg10 arg12 X4 X5 X6 X9 f10 f12 c hc]

variable (𝒱 : Variants) (c : Dev nD) (bd : Option 𝒱.V) (arg2 : Memref sig .tc .smem S1 .f32) (harg2 : arg2.IsWhole)
  (arg3 : Memref sig .tc .vmem S256x512 .f32) (harg3 : arg3.IsWhole) (harg4 : arg4.IsWhole) (harg5 : arg5.IsWhole)
  (harg6 : arg6.IsWhole) (arg7 : Memref sig .tc .vmem S1x128 .f32) (harg7 : arg7.IsWhole)
  (arg8 : Memref sig .tc .vmem S256x512 .bf16) (harg8 : arg8.IsWhole) (harg9 : arg9.IsWhole) (harg10 : arg10.IsWhole)
  (harg11 : arg11.IsWhole) (harg12 : arg12.IsWhole) (arg1 : BitVec 32) (v63 : FVec F S8x1x256 .f32)

/-- A trip takes row `r` two steps on: max. -/
theorem trip_row_max (r : ℕ) (hr : r < 8) :
    View.readAt (Elt F) arg10.view (statRect r).toLoadRect (arg10.view.writes (Elt F) f10 (tripL_k0_t1 (F := F) 𝒱 c bd i arg2 harg2 arg3 harg3 arg4 harg4 arg5 harg5 arg6 harg6 arg7 harg7 arg8 harg8 arg9 harg9 arg10 harg10 arg11 harg11 arg12 harg12 arg1 v63 X4 X5 X6 X9 k f10 f11 f12).1)
      = maxNew (keySub (arg4.view.read (Elt F) X4) r (2 * k.val + 1)) (qrySub (arg9.view.read (Elt F) X9) r) (biasSub (arg6.view.read (Elt F) X6) (i 1).val r (2 * k.val + 1)) (maxNew (keySub (arg4.view.read (Elt F) X4) r (2 * k.val)) (qrySub (arg9.view.read (Elt F) X9) r) (biasSub (arg6.view.read (Elt F) X6) (i 1).val r (2 * k.val)) (View.readAt (Elt F) arg10.view (statRect r).toLoadRect f10)) := by
  have e1 : r % 8 = r := Nat.mod_eq_of_lt hr
  have e2 : r / 8 = 0 := Nat.div_eq_of_lt hr
  have e3 : (8 + r) % 8 = r := by omega
  have e4 : (8 + r) / 8 = 1 := by omega
  rw [trip_max, max_late i k arg4 arg6 arg9 arg10 X4 X6 X9 f10 f10 (8 + r) r (by omega) 16 (7 - r) (by omega) (by omega), maxW_second i k arg4 arg6 arg9 arg10 X4 X6 X9 f10 r hr, maxW_first i k arg4 arg6 arg9 arg10 X4 X6 X9 f10 r hr]
  rw [keyAt_eq i k arg4 X4 r (by omega), keyAt_eq i k arg4 X4 (8 + r) (by omega), biasAt_eq i k arg6 X6 r (by omega),
    biasAt_eq i k arg6 X6 (8 + r) (by omega), qryAt_eq arg9 X9 r, qryAt_eq arg9 X9 (8 + r), e1, e2, e3, e4, show 2 * k.val + 0 = 2 * k.val from rfl]

/-- A trip takes row `r` two steps on: den. -/
theorem trip_row_den (r : ℕ) (hr : r < 8) :
    View.readAt (Elt F) arg11.view (statRect r).toLoadRect (arg11.view.writes (Elt F) f11 (tripL_k0_t1 (F := F) 𝒱 c bd i arg2 harg2 arg3 harg3 arg4 harg4 arg5 harg5 arg6 harg6 arg7 harg7 arg8 harg8 arg9 harg9 arg10 harg10 arg11 harg11 arg12 harg12 arg1 v63 X4 X5 X6 X9 k f10 f11 f12).2.1)
      = denNew (keySub (arg4.view.read (Elt F) X4) r (2 * k.val + 1)) (qrySub (arg9.view.read (Elt F) X9) r) (biasSub (arg6.view.read (Elt F) X6) (i 1).val r (2 * k.val + 1)) (maxNew (keySub (arg4.view.read (Elt F) X4) r (2 * k.val)) (qrySub (arg9.view.read (Elt F) X9) r) (biasSub (arg6.view.read (Elt F) X6) (i 1).val r (2 * k.val)) (View.readAt (Elt F) arg10.view (statRect r).toLoadRect f10)) (denNew (keySub (arg4.view.read (Elt F) X4) r (2 * k.val)) (qrySub (arg9.view.read (Elt F) X9) r) (biasSub (arg6.view.read (Elt F) X6) (i 1).val r (2 * k.val)) (View.readAt (Elt F) arg10.view (statRect r).toLoadRect f10) (View.readAt (Elt F) arg11.view (statRect r).toLoadRect f11)) := by
  have e1 : r % 8 = r := Nat.mod_eq_of_lt hr
  have e2 : r / 8 = 0 := Nat.div_eq_of_lt hr
  have e3 : (8 + r) % 8 = r := by omega
  have e4 : (8 + r) / 8 = 1 := by omega
  rw [trip_den, den_late i k arg4 arg6 arg9 arg10 arg11 X4 X6 X9 f10 f11 f11 (8 + r) r (by omega) 16 (7 - r) (by omega) (by omega), denW_second i k arg4 arg6 arg9 arg10 arg11 X4 X6 X9 f10 f11 r hr, denW_first i k arg4 arg6 arg9 arg10 arg11 X4 X6 X9 f10 f11 r hr, maxW_first i k arg4 arg6 arg9 arg10 X4 X6 X9 f10 r hr]
  rw [keyAt_eq i k arg4 X4 r (by omega), keyAt_eq i k arg4 X4 (8 + r) (by omega), biasAt_eq i k arg6 X6 r (by omega),
    biasAt_eq i k arg6 X6 (8 + r) (by omega), qryAt_eq arg9 X9 r, qryAt_eq arg9 X9 (8 + r), e1, e2, e3, e4, show 2 * k.val + 0 = 2 * k.val from rfl]

/-- A trip takes row `r` two steps on: acc. -/
theorem trip_row_acc (r : ℕ) (hr : r < 8) :
    View.readAt (Elt F) arg12.view (accRect r).toLoadRect (arg12.view.writes (Elt F) f12 (tripL_k0_t1 (F := F) 𝒱 c bd i arg2 harg2 arg3 harg3 arg4 harg4 arg5 harg5 arg6 harg6 arg7 harg7 arg8 harg8 arg9 harg9 arg10 harg10 arg11 harg11 arg12 harg12 arg1 v63 X4 X5 X6 X9 k f10 f11 f12).2.2)
      = accNew (keySub (arg4.view.read (Elt F) X4) r (2 * k.val + 1)) (valSub (arg5.view.read (Elt F) X5) r (2 * k.val + 1)) (qrySub (arg9.view.read (Elt F) X9) r) (biasSub (arg6.view.read (Elt F) X6) (i 1).val r (2 * k.val + 1)) (maxNew (keySub (arg4.view.read (Elt F) X4) r (2 * k.val)) (qrySub (arg9.view.read (Elt F) X9) r) (biasSub (arg6.view.read (Elt F) X6) (i 1).val r (2 * k.val)) (View.readAt (Elt F) arg10.view (statRect r).toLoadRect f10)) (accNew (keySub (arg4.view.read (Elt F) X4) r (2 * k.val)) (valSub (arg5.view.read (Elt F) X5) r (2 * k.val)) (qrySub (arg9.view.read (Elt F) X9) r) (biasSub (arg6.view.read (Elt F) X6) (i 1).val r (2 * k.val)) (View.readAt (Elt F) arg10.view (statRect r).toLoadRect f10) (View.readAt (Elt F) arg12.view (accRect r).toLoadRect f12)) := by
  have e1 : r % 8 = r := Nat.mod_eq_of_lt hr
  have e2 : r / 8 = 0 := Nat.div_eq_of_lt hr
  have e3 : (8 + r) % 8 = r := by omega
  have e4 : (8 + r) / 8 = 1 := by omega
  rw [trip_acc, acc_late i k arg4 arg5 arg6 arg9 arg10 arg12 X4 X5 X6 X9 f10 f12 f12 (8 + r) r (by omega) 16 (7 - r) (by omega) (by omega), accW_second i k arg4 arg5 arg6 arg9 arg10 arg12 X4 X5 X6 X9 f10 f12 r hr, accW_first i k arg4 arg5 arg6 arg9 arg10 arg12 X4 X5 X6 X9 f10 f12 r hr, maxW_first i k arg4 arg6 arg9 arg10 X4 X6 X9 f10 r hr]
  rw [keyAt_eq i k arg4 X4 r (by omega), keyAt_eq i k arg4 X4 (8 + r) (by omega), biasAt_eq i k arg6 X6 r (by omega),
    biasAt_eq i k arg6 X6 (8 + r) (by omega), qryAt_eq arg9 X9 r, qryAt_eq arg9 X9 (8 + r),
    valAt_eq i k arg5 X5 r (by omega), valAt_eq i k arg5 X5 (8 + r) (by omega), e1, e2, e3, e4, show 2 * k.val + 0 = 2 * k.val from rfl]

end Trips

section Loop

variable (i : grid0.Coords) (arg4 : Memref sig .tc .vmem S4096x512 .bf16)
  (arg5 : Memref sig .tc .vmem S16x512x256 .bf16)
  (arg6 : Memref sig .tc .vmem S3x8x256x256 .f32) (arg9 : Memref sig .tc .vmem S8x256x128 .bf16)
  (arg10 : Memref sig .tc .vmem S8x1x256 .f32) (arg11 : Memref sig .tc .vmem S8x1x256 .f32)
  (arg12 : Memref sig .tc .vmem S8x128x256 .f32)
  (X4 : BufTy.Contents (Elt F) arg4.view.ty) (X5 : BufTy.Contents (Elt F) arg5.view.ty)
  (X6 : BufTy.Contents (Elt F) arg6.view.ty) (X9 : BufTy.Contents (Elt F) arg9.view.ty)
  (f10 : BufTy.Contents (Elt F) arg10.view.ty) (f11 : BufTy.Contents (Elt F) arg11.view.ty)
  (f12 : BufTy.Contents (Elt F) arg12.view.ty)
  (𝒱 : Variants) (c : Dev nD) (bd : Option 𝒱.V) (arg2 : Memref sig .tc .smem S1 .f32) (harg2 : arg2.IsWhole)
  (arg3 : Memref sig .tc .vmem S256x512 .f32) (harg3 : arg3.IsWhole) (harg4 : arg4.IsWhole) (harg5 : arg5.IsWhole)
  (harg6 : arg6.IsWhole) (arg7 : Memref sig .tc .vmem S1x128 .f32) (harg7 : arg7.IsWhole)
  (arg8 : Memref sig .tc .vmem S256x512 .bf16) (harg8 : arg8.IsWhole) (harg9 : arg9.IsWhole) (harg10 : arg10.IsWhole)
  (harg11 : arg11.IsWhole) (harg12 : arg12.IsWhole) (arg1 : BitVec 32) (v63 : FVec F S8x1x256 .f32)

/-- After `K` trips row `r` holds the step iterated `2 * K` times. -/
theorem loop_rows (r : ℕ) (hr : r < 8) : ∀ K : ℕ, K ≤ (k0_t1_loop i).trips →
    View.readAt (Elt F) arg10.view (statRect r).toLoadRect (arg10.view.writes (Elt F) f10 (pb_k0_t1 (F := F) 𝒱 c bd i arg2 harg2 arg3 harg3 arg4 harg4 arg5 harg5 arg6 harg6 arg7 harg7 arg8 harg8 arg9 harg9 arg10 harg10 arg11 harg11 arg12 harg12 arg1 v63 X4 X5 X6 X9 f10 f11 f12 K).1)
      = runMax (i 1).val r (arg4.view.read (Elt F) X4) (arg6.view.read (Elt F) X6) (arg9.view.read (Elt F) X9) (View.readAt (Elt F) arg10.view (statRect r).toLoadRect f10) (2 * K) ∧ View.readAt (Elt F) arg11.view (statRect r).toLoadRect (arg11.view.writes (Elt F) f11 (pb_k0_t1 (F := F) 𝒱 c bd i arg2 harg2 arg3 harg3 arg4 harg4 arg5 harg5 arg6 harg6 arg7 harg7 arg8 harg8 arg9 harg9 arg10 harg10 arg11 harg11 arg12 harg12 arg1 v63 X4 X5 X6 X9 f10 f11 f12 K).2.1)
      = runDen (i 1).val r (arg4.view.read (Elt F) X4) (arg6.view.read (Elt F) X6) (arg9.view.read (Elt F) X9) (View.readAt (Elt F) arg10.view (statRect r).toLoadRect f10) (View.readAt (Elt F) arg11.view (statRect r).toLoadRect f11) (2 * K) ∧ View.readAt (Elt F) arg12.view (accRect r).toLoadRect (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 arg1 v63 X4 X5 X6 X9 f10 f11 f12 K).2.2)
      = runAcc (i 1).val r (arg4.view.read (Elt F) X4) (arg5.view.read (Elt F) X5) (arg6.view.read (Elt F) X6) (arg9.view.read (Elt F) X9) (View.readAt (Elt F) arg10.view (statRect r).toLoadRect f10) (View.readAt (Elt F) arg12.view (accRect r).toLoadRect f12) (2 * K)
  | 0, _ => ⟨rfl, rfl, rfl⟩
  | K + 1, hK => by
    obtain ⟨ih1, ih2, ih3⟩ := loop_rows r hr K (by omega)
    have hk : K < (k0_t1_loop i).trips := by omega
    have hs := pb_k0_t1_succ (F := F) 𝒱 c bd i arg2 harg2 arg3 harg3 arg4 harg4 arg5 harg5 arg6 harg6 arg7 harg7 arg8 harg8 arg9 harg9 arg10 harg10 arg11 harg11 arg12 harg12 arg1 v63 X4 X5 X6 X9 f10 f11 f12 ⟨K, hk⟩
    rw [show K + 1 = (⟨K, hk⟩ : Fin _).val + 1 from rfl, hs]
    refine ⟨?_, ?_, ?_⟩
    · rw [View.writes_append, trip_row_max i ⟨K, hk⟩ arg4 arg5 arg6 arg9 arg10 arg11 arg12 X4 X5 X6 X9 _ _ _ 𝒱 c bd arg2 harg2 arg3 harg3 harg4 harg5 harg6 arg7 harg7 arg8 harg8 harg9 harg10 harg11 harg12 arg1 v63 r hr, ih1]
      rfl
    · rw [View.writes_append, trip_row_den i ⟨K, hk⟩ arg4 arg5 arg6 arg9 arg10 arg11 arg12 X4 X5 X6 X9 _ _ _ 𝒱 c bd arg2 harg2 arg3 harg3 harg4 harg5 harg6 arg7 harg7 arg8 harg8 harg9 harg10 harg11 harg12 arg1 v63 r hr, ih1, ih2]
      rfl
    · rw [View.writes_append, trip_row_acc i ⟨K, hk⟩ arg4 arg5 arg6 arg9 arg10 arg11 arg12 X4 X5 X6 X9 _ _ _ 𝒱 c bd arg2 harg2 arg3 harg3 harg4 harg5 harg6 arg7 harg7 arg8 harg8 harg9 harg10 harg11 harg12 arg1 v63 r hr, ih1, ih3]
      rfl

end Loop

end Cert.KernelIdeal.Diff
-- ==== Proof.Block.lean ====
/- What one grid point of the kernel leaves in its output block, from the values of its input blocks: the pieces it
   writes, and the rows of the denominator and of the accumulator that it reads back for them. -/
module

public import proofs.«01_k».proof.Proof.Loop

@[expose] public section

set_option maxRecDepth 16384

noncomputable section

namespace Cert.KernelIdeal.Diff

open Cert.KernelIdeal Cert.KernelIdeal.Gen Idealize.ShloMosaic Idealize.ShloMosaic.TcCoe Idealize.SL.Sem

variable {F : FTy → Type} [FloatOps F] [Named F]

/-- One head's output from its two maps' accumulators and denominators. -/
def headOut (lam : Elt F .f32) (a0 : Vec F S1x128x256 .f32) (l0 : Vec F S1x1x256 .f32) (a1 : Vec F S1x128x256 .f32)
    (l1 : Vec F S1x1x256 .f32) (g : Vec F S1x128 .f32) : FVec F S256x128 .bf16 :=
  k0_pay1 (k0_pay354 a0 l0) (k0_pay355 a1 l1) (k0_pay356 g) (k0_pay357 lam)

variable (c : Dev nD) (i : grid0.Coords) (arg2 : Memref sig .tc .smem S1 .f32) (harg2 : arg2.IsWhole) (arg3 : Memref sig .tc .vmem S256x512 .f32)
  (harg3 : arg3.IsWhole) (arg4 : Memref sig .tc .vmem S4096x512 .bf16) (harg4 : arg4.IsWhole)
  (arg5 : Memref sig .tc .vmem S16x512x256 .bf16) (harg5 : arg5.IsWhole) (arg6 : Memref sig .tc .vmem S3x8x256x256 .f32)
  (harg6 : arg6.IsWhole) (arg7 : Memref sig .tc .vmem S1x128 .f32) (harg7 : arg7.IsWhole)
  (arg8 : Memref sig .tc .vmem S256x512 .bf16) (harg8 : arg8.IsWhole) (arg9 : Memref sig .tc .vmem S8x256x128 .bf16)
  (harg9 : arg9.IsWhole) (arg10 : Memref sig .tc .vmem S8x1x256 .f32) (harg10 : arg10.IsWhole)
  (arg11 : Memref sig .tc .vmem S8x1x256 .f32) (harg11 : arg11.IsWhole)
  (arg12 : Memref sig .tc .vmem S8x128x256 .f32) (harg12 : arg12.IsWhole)
  (x0 : Vec F S1 .f32) (x1 : Vec F S256x512 .f32) (x2 : Vec F S4096x512 .bf16) (x3 : Vec F S16x512x256 .bf16) (x4 : Vec F S3x8x256x256 .f32) (x5 : Vec F S1x128 .f32)

/-- Everything the first loop has written. -/
abbrev T1 : List (View.Piece (Elt F) S8x1x256 .f32) × List (View.Piece (Elt F) S8x1x256 .f32) × List (View.Piece (Elt F) S8x128x256 .f32) :=
  (pb_k0_t1 Variants.none c none i arg2 harg2 arg3 harg3 arg4 harg4 arg5 harg5 arg6 harg6 arg7 harg7 arg8 harg8 arg9 harg9 arg10 harg10 arg11 harg11 arg12 harg12 (BitVec.ofNat 32 (i 1).val) k0_pay338 (harg4.unread x2) (harg5.unread x3) (harg6.unread x4) (arg9.view.writes (Elt F) arg9.view.junk (kernelRun0_A.sl.HS0_8 c arg3 harg3 x1)) (arg10.view.writes (Elt F) arg10.view.junk kernelRun0_A.sl.HS1_1) (arg11.view.writes (Elt F) arg11.view.junk kernelRun0_A.sl.HS2_1) (arg12.view.writes (Elt F) arg12.view.junk kernelRun0_A.sl.HS3_1) (Scf.trips (k0_t1_loop i).lb (k0_t1_loop i).ub (k0_t1_loop i).st))
/-- Everything the second loop has written (it takes no trip). -/
abbrev T2 : List (View.Piece (Elt F) S8x1x256 .f32) × List (View.Piece (Elt F) S8x1x256 .f32) × List (View.Piece (Elt F) S8x128x256 .f32) :=
  pb_k0_t2 Variants.none c none i arg2 harg2 arg3 harg3 arg4 harg4 arg5 harg5 arg6 harg6 arg7 harg7 arg8 harg8 arg9 harg9 arg10 harg10 arg11 harg11 arg12 harg12 (BitVec.ofNat 32 (i 1).val) k0_pay338 (kernelRun0_A.sl.v80 i) (harg4.unread x2) (harg5.unread x3) (harg6.unread x4) (arg9.view.writes (Elt F) arg9.view.junk (kernelRun0_A.sl.HS0_8 c arg3 harg3 x1))
    (arg10.view.writes (Elt F) arg10.view.junk ((T1 c i arg2 harg2 arg3 harg3 arg4 harg4 arg5 harg5 arg6 harg6 arg7 harg7 arg8 harg8 arg9 harg9 arg10 harg10 arg11 harg11 arg12 harg12 x1 x2 x3 x4).1 ++ kernelRun0_A.sl.HS1_1))
    (arg11.view.writes (Elt F) arg11.view.junk ((T1 c i arg2 harg2 arg3 harg3 arg4 harg4 arg5 harg5 arg6 harg6 arg7 harg7 arg8 harg8 arg9 harg9 arg10 harg10 arg11 harg11 arg12 harg12 x1 x2 x3 x4).2.1 ++ kernelRun0_A.sl.HS2_1))
    (arg12.view.writes (Elt F) arg12.view.junk ((T1 c i arg2 harg2 arg3 harg3 arg4 harg4 arg5 harg5 arg6 harg6 arg7 harg7 arg8 harg8 arg9 harg9 arg10 harg10 arg11 harg11 arg12 harg12 x1 x2 x3 x4).2.2 ++ kernelRun0_A.sl.HS3_1))
    (Scf.trips (k0_t2_loop i).lb (k0_t2_loop i).ub (k0_t2_loop i).st)
/-- Row `n` of the denominator, at the end. -/
def denRow (n : ℕ) : Vec F S1x1x256 .f32 :=
  arg11.view.readCov ((T2 c i arg2 harg2 arg3 harg3 arg4 harg4 arg5 harg5 arg6 harg6 arg7 harg7 arg8 harg8 arg9 harg9 arg10 harg10 arg11 harg11 arg12 harg12 x1 x2 x3 x4).2.1 ++ ((T1 c i arg2 harg2 arg3 harg3 arg4 harg4 arg5 harg5 arg6 harg6 arg7 harg7 arg8 harg8 arg9 harg9 arg10 harg10 arg11 harg11 arg12 harg12 x1 x2 x3 x4).2.1 ++ kernelRun0_A.sl.HS2_1)) (statRect n).toLoadRect
/-- Slice `n` of the accumulator, at the end. -/
def accRow (n : ℕ) : Vec F S1x128x256 .f32 :=
  arg12.view.readCov ((T2 c i arg2 harg2 arg3 harg3 arg4 harg4 arg5 harg5 arg6 harg6 arg7 harg7 arg8 harg8 arg9 harg9 arg10 harg10 arg11 harg11 arg12 harg12 x1 x2 x3 x4).2.2 ++ ((T1 c i arg2 harg2 arg3 harg3 arg4 harg4 arg5 harg5 arg6 harg6 arg7 harg7 arg8 harg8 arg9 harg9 arg10 harg10 arg11 harg11 arg12 harg12 x1 x2 x3 x4).2.2 ++ kernelRun0_A.sl.HS3_1)) (accRect n).toLoadRect

/-- The output of head `h`. -/
def headRow (h : ℕ) : FVec F S256x128 .bf16 :=
  headOut (kernelRun0_A.sl.r_1 c arg2 harg2 x0) (accRow c i arg2 harg2 arg3 harg3 arg4 harg4 arg5 harg5 arg6 harg6 arg7 harg7 arg8 harg8 arg9 harg9 arg10 harg10 arg11 harg11 arg12 harg12 x1 x2 x3 x4 (2 * h)) (denRow c i arg2 harg2 arg3 harg3 arg4 harg4 arg5 harg5 arg6 harg6 arg7 harg7 arg8 harg8 arg9 harg9 arg10 harg10 arg11 harg11 arg12 harg12 x1 x2 x3 x4 (2 * h)) (accRow c i arg2 harg2 arg3 harg3 arg4 harg4 arg5 harg5 arg6 harg6 arg7 harg7 arg8 harg8 arg9 harg9 arg10 harg10 arg11 harg11 arg12 harg12 x1 x2 x3 x4 (2 * h + 1)) (denRow c i arg2 harg2 arg3 harg3 arg4 harg4 arg5 harg5 arg6 harg6 arg7 harg7 arg8 harg8 arg9 harg9 arg10 harg10 arg11 harg11 arg12 harg12 x1 x2 x3 x4 (2 * h + 1))
    (View.readAt (Elt F) arg7.view (Rect.unit (s := S1x128) ![0, 0] ![1, 128] inb_S1x128_S1x128_0_0).toLoadRect (harg7.unread x5))

set_option maxHeartbeats 4000000 in
/-- The output's pieces are the four heads'. -/
theorem out_pieces : (kernelRun0_A (F := F) c i arg2 harg2 arg3 harg3 arg4 harg4 arg5 harg5 arg6 harg6 arg7 harg7 arg8 harg8 arg9 harg9 arg10 harg10 arg11 harg11 arg12 harg12 x0 x1 x2 x3 x4 x5).1
    = [⟨Rect.unit (s := S256x512) ![0, 384] ![256, 128] inb_S256x512_S256x128_0_384, headRow c i arg2 harg2 arg3 harg3 arg4 harg4 arg5 harg5 arg6 harg6 arg7 harg7 arg8 harg8 arg9 harg9 arg10 harg10 arg11 harg11 arg12 harg12 x0 x1 x2 x3 x4 x5 3⟩,
       ⟨Rect.unit (s := S256x512) ![0, 256] ![256, 128] inb_S256x512_S256x128_0_256, headRow c i arg2 harg2 arg3 harg3 arg4 harg4 arg5 harg5 arg6 harg6 arg7 harg7 arg8 harg8 arg9 harg9 arg10 harg10 arg11 harg11 arg12 harg12 x0 x1 x2 x3 x4 x5 2⟩,
       ⟨Rect.unit (s := S256x512) ![0, 128] ![256, 128] inb_S256x512_S256x128_0_128, headRow c i arg2 harg2 arg3 harg3 arg4 harg4 arg5 harg5 arg6 harg6 arg7 harg7 arg8 harg8 arg9 harg9 arg10 harg10 arg11 harg11 arg12 harg12 x0 x1 x2 x3 x4 x5 1⟩,
       ⟨Rect.unit (s := S256x512) ![0, 0] ![256, 128] inb_S256x512_S256x128_0_0, headRow c i arg2 harg2 arg3 harg3 arg4 harg4 arg5 harg5 arg6 harg6 arg7 harg7 arg8 harg8 arg9 harg9 arg10 harg10 arg11 harg11 arg12 harg12 x0 x1 x2 x3 x4 x5 0⟩] := by
  unfold kernelRun0_A
  rfl

/-- Columns `128 * p …` of the query block. -/
abbrev qCols (p : ℕ) : Vec F S256x128 .f32 :=
  View.readAt (Elt F) arg3.view (Rect.unit (s := S256x512) ![0, 128 * (p % 4)] S256x128.size (fun a => by
    have : p % 4 < 4 := Nat.mod_lt _ (by decide)
    fin_cases a <;> simp [Shape.size] <;> omega)).toLoadRect (harg3.unread x1)

/-- The queries of head map `n`: its half of the columns, the other half zero. -/
def qW (n : ℕ) : FVec F S1x256x128 .bf16 :=
  if n % 2 = 0 then k0_pay326 (qCols arg3 harg3 x1 (n / 2)) else k0_pay327 (qCols arg3 harg3 x1 (n / 2))

/-- The pieces of the first `n` head maps in the split queries. -/
def qPieces : ℕ → List (View.Piece (Elt F) S8x256x128 .bf16)
  | 0 => []
  | n + 1 => ⟨qRect n, qW arg3 harg3 x1 n⟩ :: qPieces n

set_option maxHeartbeats 4000000 in
theorem qPieces_eq : kernelRun0_A.sl.HS0_8 c arg3 harg3 x1 = qPieces (F := F) arg3 harg3 x1 8 := rfl

theorem qRect_inb (n : ℕ) : ∀ a, (![n % 8, 0, 0] : Fin 3 → ℕ) a + S1x256x128.size a ≤ S8x256x128.size a := fun a => by
  have : n % 8 < 8 := Nat.mod_lt _ (by decide)
  fin_cases a <;> simp [Shape.size] <;> omega

theorem qry_eq (r : ℕ) (hr : r < 8) : qrySub (arg9.view.read (Elt F) (arg9.view.writes (Elt F) arg9.view.junk (kernelRun0_A.sl.HS0_8 c arg3 harg3 x1))) r = qW arg3 harg3 x1 r := by
  have h := qryAt_eq (F := F) arg9 (arg9.view.writes (Elt F) arg9.view.junk (kernelRun0_A.sl.HS0_8 c arg3 harg3 x1)) r
  rw [Nat.mod_eq_of_lt hr] at h
  rw [← h, qPieces_eq]
  have h2 := slice_recent (Val := Elt F) (s := S8x256x128) arg9.view arg9.view.junk (fun n => ![n % 8, 0, 0]) S1x256x128.size (fun n => (qRect_inb n)) (0 : Fin 3) rfl
    (fun _ => rfl) (fun n n' h => by show (![n' % 8, 0, 0] : Fin 3 → ℕ) = ![n % 8, 0, 0]; rw [h]) (qPieces (F := F) arg3 harg3 x1) (qW arg3 harg3 x1) (fun _ => rfl) r r rfl (7 - r) (by omega)
  rw [show r + 1 + (7 - r) = 8 by omega] at h2
  exact h2

/-- The rows' starting values. -/
def m00 : Vec F S1x1x256 .f32 := fun _ => Named.named κ "mask" 0xF149F2CA#32
def l00 : Vec F S1x1x256 .f32 := fun _ => Scalar.ofBits .f32 0x00000000#32
def a00 : Vec F S1x128x256 .f32 := fun _ => Scalar.ofBits .f32 0x00000000#32

theorem start_max (r : ℕ) : View.readAt (Elt F) arg10.view (statRect r).toLoadRect (arg10.view.writes (Elt F) arg10.view.junk kernelRun0_A.sl.HS1_1) = m00 := by
  rw [View.readAt_unit _ _ _ rfl (statRect_inb r), show (kernelRun0_A.sl.HS1_1 : List (View.Piece (Elt F) S8x1x256 .f32)) = [⟨Rect.unit (s := S8x1x256) ![0, 0, 0] S8x1x256.size inb_S8x1x256_S8x1x256_0_0_0, k0_pay339 k0_pay338⟩] from rfl, View.read_writes_full]
  rfl
theorem start_den (r : ℕ) : View.readAt (Elt F) arg11.view (statRect r).toLoadRect (arg11.view.writes (Elt F) arg11.view.junk kernelRun0_A.sl.HS2_1) = l00 := by
  rw [View.readAt_unit _ _ _ rfl (statRect_inb r), show (kernelRun0_A.sl.HS2_1 : List (View.Piece (Elt F) S8x1x256 .f32)) = [⟨Rect.unit (s := S8x1x256) ![0, 0, 0] S8x1x256.size inb_S8x1x256_S8x1x256_0_0_0, k0_pay340⟩] from rfl, View.read_writes_full]
  rfl
theorem start_acc (r : ℕ) : View.readAt (Elt F) arg12.view (accRect r).toLoadRect (arg12.view.writes (Elt F) arg12.view.junk kernelRun0_A.sl.HS3_1) = a00 := by
  rw [View.readAt_unit _ _ _ rfl (accRect_inb r), show (kernelRun0_A.sl.HS3_1 : List (View.Piece (Elt F) S8x128x256 .f32)) = [⟨Rect.unit (s := S8x128x256) ![0, 0, 0] S8x128x256.size inb_S8x128x256_S8x128x256_0_0_0, k0_pay341⟩] from rfl, View.read_writes_full]
  rfl

theorem T2_eq : T2 (F := F) c i arg2 harg2 arg3 harg3 arg4 harg4 arg5 harg5 arg6 harg6 arg7 harg7 arg8 harg8 arg9 harg9 arg10 harg10 arg11 harg11 arg12 harg12 x1 x2 x3 x4 = ([], [], []) := by
  have h : Scf.trips (k0_t2_loop i).lb (k0_t2_loop i).ub (k0_t2_loop i).st = 0 := trips2_eq i
  unfold T2
  rw [h]
  rfl

theorem denRow_eq (r : ℕ) (hr : r < 8) : denRow (F := F) c i arg2 harg2 arg3 harg3 arg4 harg4 arg5 harg5 arg6 harg6 arg7 harg7 arg8 harg8 arg9 harg9 arg10 harg10 arg11 harg11 arg12 harg12 x1 x2 x3 x4 r
    = runDen (i 1).val r x2 x4 (arg9.view.read (Elt F) (arg9.view.writes (Elt F) arg9.view.junk (kernelRun0_A.sl.HS0_8 c arg3 harg3 x1))) m00 l00 (2 * ((i 1).val + 1)) := by
  have h : Scf.trips (k0_t1_loop i).lb (k0_t1_loop i).ub (k0_t1_loop i).st = (i 1).val + 1 := trips_eq i
  have hl := (loop_rows (F := F) i arg4 arg5 arg6 arg9 arg10 arg11 arg12 (harg4.unread x2) (harg5.unread x3) (harg6.unread x4) (arg9.view.writes (Elt F) arg9.view.junk (kernelRun0_A.sl.HS0_8 c arg3 harg3 x1)) (arg10.view.writes (Elt F) arg10.view.junk kernelRun0_A.sl.HS1_1) (arg11.view.writes (Elt F) arg11.view.junk kernelRun0_A.sl.HS2_1) (arg12.view.writes (Elt F) arg12.view.junk kernelRun0_A.sl.HS3_1)
    Variants.none c none arg2 harg2 arg3 harg3 harg4 harg5 harg6 arg7 harg7 arg8 harg8 harg9 harg10 harg11 harg12 (BitVec.ofNat 32 (i 1).val) k0_pay338 r hr ((i 1).val + 1) (le_of_eq (trips_eq i).symm)).2.1
  unfold denRow
  rw [T2_eq, List.nil_append]
  unfold T1 View.readCov
  rw [h, View.writes_append, hl, start_max, start_den, harg4.read_unread, harg6.read_unread]

theorem accRow_eq (r : ℕ) (hr : r < 8) : accRow (F := F) c i arg2 harg2 arg3 harg3 arg4 harg4 arg5 harg5 arg6 harg6 arg7 harg7 arg8 harg8 arg9 harg9 arg10 harg10 arg11 harg11 arg12 harg12 x1 x2 x3 x4 r
    = runAcc (i 1).val r x2 x3 x4 (arg9.view.read (Elt F) (arg9.view.writes (Elt F) arg9.view.junk (kernelRun0_A.sl.HS0_8 c arg3 harg3 x1))) m00 a00 (2 * ((i 1).val + 1)) := by
  have h : Scf.trips (k0_t1_loop i).lb (k0_t1_loop i).ub (k0_t1_loop i).st = (i 1).val + 1 := trips_eq i
  have hl := (loop_rows (F := F) i arg4 arg5 arg6 arg9 arg10 arg11 arg12 (harg4.unread x2) (harg5.unread x3) (harg6.unread x4) (arg9.view.writes (Elt F) arg9.view.junk (kernelRun0_A.sl.HS0_8 c arg3 harg3 x1)) (arg10.view.writes (Elt F) arg10.view.junk kernelRun0_A.sl.HS1_1) (arg11.view.writes (Elt F) arg11.view.junk kernelRun0_A.sl.HS2_1) (arg12.view.writes (Elt F) arg12.view.junk kernelRun0_A.sl.HS3_1)
    Variants.none c none arg2 harg2 arg3 harg3 harg4 harg5 harg6 arg7 harg7 arg8 harg8 harg9 harg10 harg11 harg12 (BitVec.ofNat 32 (i 1).val) k0_pay338 r hr ((i 1).val + 1) (le_of_eq (trips_eq i).symm)).2.2
  unfold accRow
  rw [T2_eq, List.nil_append]
  unfold T1 View.readCov
  rw [h, View.writes_append, hl, start_max, start_acc, harg4.read_unread, harg5.read_unread, harg6.read_unread]

end Cert.KernelIdeal.Diff
-- ==== Proof.Pt.lean ====
/- One step of the online softmax over the extended reals, read at an index. -/
module

public import proofs.«01_k».proof.Proof.Step
public import Idealize.ShloMosaic.Lib.Pointwise

@[expose] public section

set_option maxRecDepth 16384

noncomputable section

namespace Cert.KernelIdeal.Diff

open Cert.KernelIdeal Cert.KernelIdeal.Gen Idealize.ShloMosaic Idealize.ShloMosaic.TcCoe Idealize.SL.Sem

variable (kp : Vec Ideal S128x128 .bf16) (vp : Vec Ideal S1x128x128 .bf16) (qh : Vec Ideal S1x256x128 .bf16)
  (bt : Vec Ideal S1x1x128x256 .f32) (m l : Vec Ideal S1x1x256 .f32) (a : Vec Ideal S1x128x256 .f32)

theorem pay4_apply (j : Fin 128) (q : Fin 256) : k0_pay4 (F := Ideal) kp qh bt (ix2 j q)
    = (∑ t : Fin 128, kp (ix2 j t) * qh (ix3 0 q t)) + bt (ix4 0 0 j q) * (((Real.log 2)⁻¹ : ℝ) : EReal) := by
  pointwise [k0_pay4, k0_pay2]
  rfl

theorem maxNew_apply (q : Fin 256) : maxNew (F := Ideal) kp qh bt m (ix3 0 0 q)
    = max (m (ix3 0 0 q)) (Finset.univ.fold max ⊥ fun j : Fin 128 => k0_pay4 (F := Ideal) kp qh bt (ix2 j q)) := by
  pointwise [maxNew, k0_pay11, k0_pay6, k0_pay5]
  rfl

theorem denNew_apply (q : Fin 256) : denNew (F := Ideal) kp qh bt m l (ix3 0 0 q)
    = Ideal.exp2 (m (ix3 0 0 q) - maxNew (F := Ideal) kp qh bt m (ix3 0 0 q)) * l (ix3 0 0 q)
      + ∑ j : Fin 128, Ideal.exp2 (k0_pay4 (F := Ideal) kp qh bt (ix2 j q) - maxNew (F := Ideal) kp qh bt m (ix3 0 0 q)) := by
  pointwise [denNew, k0_pay10, k0_pay9, k0_pay8, k0_pay7, maxNew, k0_pay11, k0_pay6, k0_pay5]
  rfl

theorem accNew_apply (d : Fin 128) (q : Fin 256) : accNew (F := Ideal) kp vp qh bt m a (ix3 0 d q)
    = a (ix3 0 d q) * Ideal.exp2 (m (ix3 0 0 q) - maxNew (F := Ideal) kp qh bt m (ix3 0 0 q))
      + ∑ j : Fin 128, vp (ix3 0 d j)
        * Ideal.exp2 (k0_pay4 (F := Ideal) kp qh bt (ix2 j q) - maxNew (F := Ideal) kp qh bt m (ix3 0 0 q)) := by
  pointwise [accNew, k0_pay3, k0_pay12, k0_pay8, k0_pay7, maxNew, k0_pay11, k0_pay6, k0_pay5]
  rfl

end Cert.KernelIdeal.Diff
-- ==== Proof.Softmax.lean ====
/- The online softmax in base two, run by run, against the softmax in base e of all keys at once, over the extended
   reals: the weights are real, the values may be anything. -/
module

public import Idealize.ShloMosaic.Lib.Pointwise

@[expose] public section

noncomputable section

namespace Cert.KernelIdeal.Diff

open Idealize.ShloMosaic

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb,
      EReal.right_distrib_of_nonneg_of_ne_top (EReal.coe_nonneg.mpr ha) (EReal.coe_ne_top a), ih]

/-- The exponential of a logit that is a real or −∞, as a real. -/
def expr (x : EReal) : ℝ := if x = ⊥ then 0 else Real.exp x.toReal
/-- The same to base two. -/
def expr2 (x : EReal) : ℝ := if x = ⊥ then 0 else Real.rpow 2 x.toReal

theorem expr_nonneg (x : EReal) : 0 ≤ expr x := by
  unfold expr; split
  · exact le_rfl
  · exact (Real.exp_pos _).le

theorem expr2_nonneg (x : EReal) : 0 ≤ expr2 x := by
  unfold expr2; split
  · exact le_rfl
  · exact Real.rpow_nonneg (by norm_num) _

theorem exp_sub (x : EReal) (hx : x ≠ ⊤) (m : ℝ) : Ideal.exp (x - (m : EReal)) = ((expr x * Real.exp (-m) : ℝ) : EReal) := by
  induction x using EReal.rec with
  | bot => simp [expr]
  | top => exact absurd rfl hx
  | coe r =>
    rw [← EReal.coe_sub, Ideal.exp_coe, expr, if_neg (EReal.coe_ne_bot r), EReal.toReal_coe, ← Real.exp_add, sub_eq_add_neg]

theorem exp2_sub (x : EReal) (hx : x ≠ ⊤) (m : ℝ) : Ideal.exp2 (x - (m : EReal)) = ((expr2 x * Real.rpow 2 (-m) : ℝ) : EReal) := by
  induction x using EReal.rec with
  | bot => simp [expr2]
  | top => exact absurd rfl hx
  | coe r =>
    rw [← EReal.coe_sub, Ideal.exp2_coe, expr2, if_neg (EReal.coe_ne_bot r), EReal.toReal_coe]
    congr 1
    show (2 : ℝ) ^ (r - m) = 2 ^ r * 2 ^ (-m)
    rw [← Real.rpow_add (by norm_num), sub_eq_add_neg]

/-- Logits scaled by log2 e have the same exponentials to base two. -/
theorem expr2_scale (x : EReal) (hx : x ≠ ⊤) : expr2 (x * (((Real.log 2)⁻¹ : ℝ) : EReal)) = expr x := by
  have hl : 0 < Real.log 2 := Real.log_pos (by norm_num)
  induction x using EReal.rec with
  | bot =>
    rw [EReal.bot_mul_coe_of_pos (inv_pos.mpr hl)]
    simp [expr, expr2]
  | top => exact absurd rfl hx
  | coe r =>
    rw [← EReal.coe_mul, expr2, if_neg (EReal.coe_ne_bot _), expr, if_neg (EReal.coe_ne_bot _), EReal.toReal_coe, EReal.toReal_coe]
    show (2 : ℝ) ^ (r * (Real.log 2)⁻¹) = _
    rw [Real.rpow_def_of_pos (by norm_num)]
    congr 1
    field_simp

/-- A maximum of finitely many extended reals, none +∞ and one not −∞, is real. -/
theorem fold_max_real {n : ℕ} (f : Fin n → EReal) (hf : ∀ j, f j ≠ ⊤) (j0 : Fin n) (h0 : f j0 ≠ ⊥) :
    ∃ r : ℝ, (Finset.univ.fold max ⊥ f : EReal) = r := by
  have hsup : (Finset.univ.fold max ⊥ f : EReal) = Finset.univ.sup f := rfl
  rw [hsup]
  have hb : Finset.univ.sup f ≠ ⊥ := fun h => h0 (by
    have := Finset.le_sup (f := f) (Finset.mem_univ j0)
    rw [h] at this
    exact le_bot_iff.mp this)
  have ht : Finset.univ.sup f ≠ ⊤ := by
    refine (lt_top_iff_ne_top.mp ((Finset.sup_lt_iff (by exact bot_lt_top)).mpr fun j _ => lt_top_iff_ne_top.mpr (hf j)))
  exact ⟨(Finset.univ.sup f).toReal, (EReal.coe_toReal ht hb).symm⟩

/-- A maximum of a real and finitely many extended reals, none +∞, is real. -/
theorem max_fold_real {n : ℕ} (m : ℝ) (f : Fin n → EReal) (hf : ∀ j, f j ≠ ⊤) :
    ∃ r : ℝ, max (m : EReal) (Finset.univ.fold max ⊥ f) = r := by
  have ht : (Finset.univ.fold max ⊥ f : EReal) ≠ ⊤ := by
    have hsup : (Finset.univ.fold max ⊥ f : EReal) = Finset.univ.sup f := rfl
    rw [hsup]
    exact (lt_top_iff_ne_top.mp ((Finset.sup_lt_iff (by exact bot_lt_top)).mpr fun j _ => lt_top_iff_ne_top.mpr (hf j)))
  have h1 : max (m : EReal) (Finset.univ.fold max ⊥ f) ≠ ⊤ := by
    rcases max_choice (m : EReal) (Finset.univ.fold max ⊥ f) with h | h <;> rw [h]
    · exact EReal.coe_ne_top m
    · exact ht
  have h2 : max (m : EReal) (Finset.univ.fold max ⊥ f) ≠ ⊥ := fun h =>
    EReal.coe_ne_bot m (le_bot_iff.mp (h ▸ le_max_left _ _))
  exact ⟨_, (EReal.coe_toReal h1 h2).symm⟩

section Online

variable (z v : ℕ → Fin 128 → EReal)

/-- The running maximum. -/
def onMax : ℕ → EReal
  | 0 => ⊥
  | u + 1 => max (onMax u) (Finset.univ.fold max ⊥ (z u))
/-- The running denominator. -/
def onDen : ℕ → EReal
  | 0 => 0
  | u + 1 => Ideal.exp2 (onMax z u - onMax z (u + 1)) * onDen u + ∑ j, Ideal.exp2 (z u j - onMax z (u + 1))
/-- The running accumulator. -/
def onAcc : ℕ → EReal
  | 0 => 0
  | u + 1 => onAcc u * Ideal.exp2 (onMax z u - onMax z (u + 1)) + ∑ j, v u j * Ideal.exp2 (z u j - onMax z (u + 1))

/-- After `u + 1` runs the maximum is a real `m`, and the denominator and the accumulator are the plain sums over all
    keys so far, each weight times `2 ^ (-m)`. -/
theorem online (hz : ∀ u j, z u j ≠ ⊤) (h0 : z 0 0 ≠ ⊥) : ∀ u : ℕ, ∃ m : ℝ, onMax z (u + 1) = m
    ∧ onDen z (u + 1) = (((∑ w ∈ Finset.range (u + 1), ∑ j, expr2 (z w j)) * Real.rpow 2 (-m) : ℝ) : EReal)
    ∧ onAcc z v (u + 1) = ∑ w ∈ Finset.range (u + 1), ∑ j, v w j * ((expr2 (z w j) * Real.rpow 2 (-m) : ℝ) : EReal)
  | 0 => by
    obtain ⟨m, hm⟩ := fold_max_real (z 0) (hz 0) 0 h0
    have hm1 : onMax z 1 = m := by
      show max ⊥ (Finset.univ.fold max ⊥ (z 0)) = _
      rw [hm]; exact max_eq_right bot_le
    have hb : Ideal.exp2 (onMax z 0 - onMax z 1) = 0 := by rw [hm1]; show Ideal.exp2 (⊥ - (m : EReal)) = 0; simp
    refine ⟨m, hm1, ?_, ?_⟩
    · show Ideal.exp2 (onMax z 0 - onMax z 1) * 0 + ∑ j, Ideal.exp2 (z 0 j - onMax z 1) = _
      rw [hb, hm1, mul_zero, zero_add, Finset.sum_range_one, Finset.sum_mul, coe_sum]
      exact Finset.sum_congr rfl fun j _ => exp2_sub _ (hz 0 j) m
    · show 0 * Ideal.exp2 (onMax z 0 - onMax z 1) + ∑ j, v 0 j * Ideal.exp2 (z 0 j - onMax z 1) = _
      rw [hb, hm1, mul_zero, zero_add, Finset.sum_range_one]
      exact Finset.sum_congr rfl fun j _ => by rw [exp2_sub _ (hz 0 j) m]
  | u + 1 => by
    obtain ⟨m, hm, hl, ha⟩ := online hz h0 u
    obtain ⟨m', hm'⟩ := max_fold_real m (z (u + 1)) (hz (u + 1))
    have hmx : onMax z (u + 1 + 1) = m' := by
      show max (onMax z (u + 1)) _ = _
      rw [hm]; exact hm'
    have hal : Ideal.exp2 (onMax z (u + 1) - onMax z (u + 1 + 1)) = ((Real.rpow 2 (m - m') : ℝ) : EReal) := by
      rw [hm, hmx, ← EReal.coe_sub, Ideal.exp2_coe]
    have hpw : Real.rpow 2 (-m) * Real.rpow 2 (m - m') = Real.rpow 2 (-m') := by
      show (2 : ℝ) ^ (-m) * 2 ^ (m - m') = 2 ^ (-m')
      rw [← Real.rpow_add (by norm_num)]
      congr 1
      ring
    refine ⟨m', hmx, ?_, ?_⟩
    · show Ideal.exp2 (onMax z (u + 1) - onMax z (u + 1 + 1)) * onDen z (u + 1) + ∑ j, Ideal.exp2 (z (u + 1) j - onMax z (u + 1 + 1)) = _
      rw [hal, hl, hmx, Finset.sum_range_succ _ (u + 1), add_mul, EReal.coe_add, ← EReal.coe_mul]
      congr 1
      · rw [← hpw]; congr 1; ring
      · rw [Finset.sum_mul, coe_sum]
        exact Finset.sum_congr rfl fun j _ => exp2_sub _ (hz (u + 1) j) m'
    · show onAcc z v (u + 1) * Ideal.exp2 (onMax z (u + 1) - onMax z (u + 1 + 1)) + ∑ j, v (u + 1) j * Ideal.exp2 (z (u + 1) j - onMax z (u + 1 + 1)) = _
      rw [hal, ha, hmx, Finset.sum_range_succ _ (u + 1)]
      congr 1
      · have hnn : 0 ≤ Real.rpow 2 (m - m') := Real.rpow_nonneg (by norm_num) _
        rw [sum_mul_coe _ _ _ hnn]
        refine Finset.sum_congr rfl fun w _ => ?_
        rw [sum_mul_coe _ _ _ hnn]
        refine Finset.sum_congr rfl fun j _ => ?_
        rw [mul_assoc, ← EReal.coe_mul, mul_assoc, hpw]
      · exact Finset.sum_congr rfl fun j _ => by rw [exp2_sub _ (hz (u + 1) j) m']

/-- The accumulator over the denominator: each value times its share of the exponentials. -/
theorem online_div (hz : ∀ u j, z u j ≠ ⊤) (h0 : z 0 0 ≠ ⊥) (u : ℕ) : Ideal.div (onAcc z v (u + 1)) (onDen z (u + 1))
    = ∑ w ∈ Finset.range (u + 1), ∑ j, v w j
        * ((expr2 (z w j) / (∑ w ∈ Finset.range (u + 1), ∑ j, expr2 (z w j)) : ℝ) : EReal) := by
  obtain ⟨m, -, hl, ha⟩ := online z v hz h0 u
  have hp : 0 < Real.rpow 2 (-m) := Real.rpow_pos_of_pos (by norm_num) _
  have hs : 0 < ∑ w ∈ Finset.range (u + 1), ∑ j, expr2 (z w j) := by
    refine Finset.sum_pos' (fun w _ => Finset.sum_nonneg fun j _ => expr2_nonneg _) ⟨0, Finset.mem_range.mpr (Nat.succ_pos u), ?_⟩
    refine Finset.sum_pos' (fun j _ => expr2_nonneg _) ⟨0, Finset.mem_univ _, ?_⟩
    unfold expr2
    rw [if_neg h0]
    exact Real.rpow_pos_of_pos (by norm_num) _
  rw [ha, hl, Ideal.div_coe (mul_pos hs hp).ne', sum_mul_coe _ _ _ (by positivity)]
  refine Finset.sum_congr rfl fun w _ => ?_
  rw [sum_mul_coe _ _ _ (by positivity)]
  refine Finset.sum_congr rfl fun j _ => ?_
  rw [mul_assoc, ← EReal.coe_mul]
  congr 2
  have h1 := hp.ne'
  have h2 := hs.ne'
  field_simp

end Online

/-- The softmax of all keys at once: each value times its share of the exponentials. -/
theorem softmax_dot {n : ℕ} (x v : Fin n → EReal) (hx : ∀ k, x k ≠ ⊤) (k0 : Fin n) (h0 : x k0 ≠ ⊥) (m : EReal)
    (hm : m = max ⊥ (Finset.univ.fold max ⊥ x)) :
    ∑ k, Ideal.div (Ideal.exp (x k - m)) (∑ k, Ideal.exp (x k - m)) * v k
      = ∑ k, v k * ((expr (x k) / ∑ k, expr (x k) : ℝ) : EReal) := by
  obtain ⟨r, hr⟩ := fold_max_real x hx k0 h0
  have hmr : m = (r : EReal) := by rw [hm, hr]; exact max_eq_right bot_le
  have hs : 0 < ∑ k, expr (x k) := by
    refine Finset.sum_pos' (fun k _ => expr_nonneg _) ⟨k0, Finset.mem_univ _, ?_⟩
    unfold expr
    rw [if_neg h0]
    exact Real.exp_pos _
  have hsum : ∑ k, Ideal.exp (x k - m) = (((∑ k, expr (x k)) * Real.exp (-r) : ℝ) : EReal) := by
    rw [Finset.sum_mul, coe_sum]
    exact Finset.sum_congr rfl fun k _ => by rw [hmr, exp_sub _ (hx k)]
  have hp := Real.exp_pos (-r)
  refine Finset.sum_congr rfl fun k _ => ?_
  rw [hsum, hmr, exp_sub _ (hx k), Ideal.div_coe (mul_pos hs hp).ne', ← EReal.coe_mul, mul_comm]
  congr 2
  have h1 := hp.ne'
  have h2 := hs.ne'
  field_simp

/-- The two agree: run `u` of the online softmax is keys `128 u …` of the other, its logits scaled by log2 e, and the
    keys it leaves out are masked. -/
theorem online_eq_softmax (x v : Fin 4096 → EReal) (hx : ∀ k, x k ≠ ⊤) (h0 : x 0 ≠ ⊥) (u : ℕ) (hu : u < 32)
    (hmask : ∀ k : Fin 4096, 128 * (u + 1) ≤ k.val → x k = ⊥) (m : EReal)
    (hm : m = max ⊥ (Finset.univ.fold max ⊥ x)) (z w : ℕ → Fin 128 → EReal)
    (hzT : ∀ u j, z u j ≠ ⊤)
    (hz : ∀ (n : ℕ) (hn : n < u + 1) (j : Fin 128), z n j = x ⟨128 * n + j.val, by omega⟩ * (((Real.log 2)⁻¹ : ℝ) : EReal))
    (hw : ∀ (n : ℕ) (hn : n < u + 1) (j : Fin 128), w n j = v ⟨128 * n + j.val, by omega⟩) :
    Ideal.div (onAcc z w (u + 1)) (onDen z (u + 1))
      = ∑ k, Ideal.div (Ideal.exp (x k - m)) (∑ k, Ideal.exp (x k - m)) * v k := by
  have hz0 : z 0 0 ≠ ⊥ := by
    rw [hz 0 (Nat.succ_pos u) 0]
    have : x ⟨128 * 0 + (0 : Fin 128).val, by decide⟩ = x 0 := rfl
    rw [this]
    obtain ⟨r, hr⟩ : ∃ r : ℝ, x 0 = r := ⟨_, (EReal.coe_toReal (hx 0) h0).symm⟩
    rw [hr, ← EReal.coe_mul]
    exact EReal.coe_ne_bot _
  have cut : ∀ {M : Type} [AddCommMonoid M] (f : Fin 4096 → M), (∀ k : Fin 4096, 128 * (u + 1) ≤ k.val → f k = 0) →
      ∑ k, f k = ∑ n ∈ Finset.range (u + 1), ∑ j : Fin 128, (if h : 128 * n + j.val < 4096 then f ⟨128 * n + j.val, h⟩ else 0) := by
    intro M _ f hf
    rw [Fin.sum_univ_tiles 32 128 (by norm_num) f]
    have hsub : Finset.range (u + 1) ⊆ Finset.range 32 := Finset.range_subset_range.mpr (by omega)
    rw [Finset.sum_subset hsub fun n _ hn' => Finset.sum_eq_zero fun j _ => ?_,
      ← Fin.sum_univ_eq_sum_range (fun n => ∑ j : Fin 128, (if h : 128 * n + j.val < 4096 then f ⟨128 * n + j.val, h⟩ else 0)) 32]
    · refine Finset.sum_congr rfl fun n _ => Finset.sum_congr rfl fun j _ => ?_
      have h : 128 * n.val + j.val < 4096 := by omega
      rw [dif_pos h]
      exact congrArg f (Fin.ext (by show n.val * 128 + j.val = 128 * n.val + j.val; omega))
    · split
      · exact hf _ (by have := mt Finset.mem_range.mpr hn'; show _ ≤ 128 * n + j.val; omega)
      · rfl
  rw [online_div z w hzT hz0, softmax_dot x v hx 0 h0 m hm]
  have hterm : ∀ n ∈ Finset.range (u + 1), ∀ j : Fin 128, ∀ h : 128 * n + j.val < 4096, expr2 (z n j) = expr (x ⟨128 * n + j.val, h⟩) := by
    intro n hn j h
    rw [hz n (Finset.mem_range.mp hn) j, expr2_scale _ (hx _)]
  have hden : ∑ n ∈ Finset.range (u + 1), ∑ j, expr2 (z n j) = ∑ k, expr (x k) := by
    rw [cut (fun k => expr (x k)) fun k hk => by simp [hmask k hk, expr]]
    refine Finset.sum_congr rfl fun n hn => Finset.sum_congr rfl fun j _ => ?_
    have h : 128 * n + j.val < 4096 := by have := Finset.mem_range.mp hn; omega
    rw [dif_pos h]
    exact hterm n hn j h
  rw [hden, cut (fun k => v k * ((expr (x k) / ∑ k, expr (x k) : ℝ) : EReal)) fun k hk => by simp [hmask k hk, expr]]
  refine Finset.sum_congr rfl fun n hn => Finset.sum_congr rfl fun j _ => ?_
  have h : 128 * n + j.val < 4096 := by have := Finset.mem_range.mp hn; omega
  rw [dif_pos h, hterm n hn j h, hw n (Finset.mem_range.mp hn) j]

end Cert.KernelIdeal.Diff
-- ==== Proof.OutPt.lean ====
/- One grid point's output block over the extended reals, at an index: the normalised difference of two means. -/
module

public import proofs.«01_k».proof.Proof.Block
public import proofs.«01_k».proof.Proof.Pt
public import proofs.«01_k».proof.Proof.Softmax

@[expose] public section

set_option maxRecDepth 16384

noncomputable section

namespace Cert.KernelIdeal.Diff

open Cert.KernelIdeal Cert.KernelIdeal.Gen Idealize.ShloMosaic Idealize.ShloMosaic.TcCoe Idealize.SL.Sem

/-- The normalised output of one query: of the difference `d` of the two maps' means. -/
def subln (d : Fin 128 → EReal) (g : EReal) (e : Fin 128) : EReal :=
  d e * Ideal.rsqrt (Ideal.div (∑ k : Fin 128, d k * d k) (Ideal.ofBits .f32 0x43000000#32) + Ideal.ofBits .f32 0x358637BD#32) * g * Ideal.ofBits .f32 0x3F4CCCCD#32

theorem headOut_apply (lam : EReal) (a0 : Vec Ideal S1x128x256 .f32) (l0 : Vec Ideal S1x1x256 .f32) (a1 : Vec Ideal S1x128x256 .f32)
    (l1 : Vec Ideal S1x1x256 .f32) (g : Vec Ideal S1x128 .f32) (r : Fin 256) (e : Fin 128) :
    headOut (F := Ideal) lam a0 l0 a1 l1 g (ix2 r e)
      = subln (fun e => Ideal.div (a0 (ix3 0 e r)) (l0 (ix3 0 0 r)) - lam * Ideal.div (a1 (ix3 0 e r)) (l1 (ix3 0 0 r))) (g (ix2 0 e)) e := by
  pointwise [headOut, k0_pay1, k0_pay354, k0_pay355, k0_pay356, k0_pay357]
  rfl

theorem lane_lo : ∀ l : Fin 128, IntOp.cmpi CmpIPredicate.slt (BitVec.ofNat 32 l.val) 64#32 = if l.val < 64 then 1#1 else 0#1 := by decide +kernel

theorem pay326_apply (x : Vec Ideal S256x128 .f32) (r : Fin 256) (l : Fin 128) : k0_pay326 (F := Ideal) x (ix3 0 r l)
    = if l.val < 64 then x (ix2 r l) * (((8 * (Real.log 2))⁻¹ : ℝ) : EReal) else 0 := by
  pointwise [k0_pay326, k0_pay324, k0_pay325]
  rw [lane_lo]
  split <;> rfl

theorem pay327_apply (x : Vec Ideal S256x128 .f32) (r : Fin 256) (l : Fin 128) : k0_pay327 (F := Ideal) x (ix3 0 r l)
    = if l.val < 64 then 0 else x (ix2 r l) * (((8 * (Real.log 2))⁻¹ : ℝ) : EReal) := by
  pointwise [k0_pay327, k0_pay324, k0_pay325]
  rw [lane_lo]
  split <;> rfl

theorem lam_read (c : Dev nD) (arg2 : Memref sig .tc .smem S1 .f32) (harg2 : arg2.IsWhole) (x0 : Vec Ideal S1 .f32) :
    kernelRun0_A.sl.r_1 (F := Ideal) c arg2 harg2 x0 = x0 (ix1 0) := by
  unfold kernelRun0_A.sl.r_1
  rw [View.readAt_eq_ld, harg2.read_unread]
  exact congrArg x0 (funext fun a => by fin_cases a; rfl)

theorem runMax_apply (b c : ℕ) (x4 : S4096x512.Idx → EReal) (x6 : S3x8x256x256.Idx → EReal) (x9 : S8x256x128.Idx → EReal) (q : Fin 256) :
    ∀ u, runMax (F := Ideal) b c x4 x6 x9 m00 u (ix3 0 0 q)
      = onMax (fun u j => k0_pay4 (F := Ideal) (keySub (F := Ideal) x4 c u) (qrySub (F := Ideal) x9 c) (biasSub (F := Ideal) x6 b c u) (ix2 j q)) u
  | 0 => rfl
  | u + 1 => by
    show maxNew (F := Ideal) _ _ _ _ (ix3 0 0 q) = _
    rw [maxNew_apply, runMax_apply b c x4 x6 x9 q u]
    rfl

theorem runDen_apply (b c : ℕ) (x4 : S4096x512.Idx → EReal) (x6 : S3x8x256x256.Idx → EReal) (x9 : S8x256x128.Idx → EReal) (q : Fin 256) :
    ∀ u, runDen (F := Ideal) b c x4 x6 x9 m00 l00 u (ix3 0 0 q)
      = onDen (fun u j => k0_pay4 (F := Ideal) (keySub (F := Ideal) x4 c u) (qrySub (F := Ideal) x9 c) (biasSub (F := Ideal) x6 b c u) (ix2 j q)) u
  | 0 => Ideal.ofBits_zero .f32
  | u + 1 => by
    have h : maxNew (F := Ideal) (keySub (F := Ideal) x4 c u) (qrySub (F := Ideal) x9 c) (biasSub (F := Ideal) x6 b c u) (runMax (F := Ideal) b c x4 x6 x9 m00 u) (ix3 0 0 q) = _ :=
      runMax_apply b c x4 x6 x9 q (u + 1)
    show denNew (F := Ideal) _ _ _ _ _ (ix3 0 0 q) = _
    rw [denNew_apply, h, runMax_apply b c x4 x6 x9 q u, runDen_apply b c x4 x6 x9 q u]
    rfl

theorem runAcc_apply (b c : ℕ) (x4 : S4096x512.Idx → EReal) (x5 : S16x512x256.Idx → EReal) (x6 : S3x8x256x256.Idx → EReal) (x9 : S8x256x128.Idx → EReal) (d : Fin 128) (q : Fin 256) :
    ∀ u, runAcc (F := Ideal) b c x4 x5 x6 x9 m00 a00 u (ix3 0 d q)
      = onAcc (fun u j => k0_pay4 (F := Ideal) (keySub (F := Ideal) x4 c u) (qrySub (F := Ideal) x9 c) (biasSub (F := Ideal) x6 b c u) (ix2 j q))
          (fun u j => valSub (F := Ideal) x5 c u (ix3 0 d j)) u
  | 0 => Ideal.ofBits_zero .f32
  | u + 1 => by
    have h : maxNew (F := Ideal) (keySub (F := Ideal) x4 c u) (qrySub (F := Ideal) x9 c) (biasSub (F := Ideal) x6 b c u) (runMax (F := Ideal) b c x4 x6 x9 m00 u) (ix3 0 0 q) = _ :=
      runMax_apply b c x4 x6 x9 q (u + 1)
    show accNew (F := Ideal) _ _ _ _ _ _ (ix3 0 d q) = _
    rw [accNew_apply, h, runMax_apply b c x4 x6 x9 q u, runAcc_apply b c x4 x5 x6 x9 d q u]
    rfl

/-- The newest column block written into an array, read back. -/
theorem col_hit {sig : RefSig} {κ : Kind} {sp : Space} {Val : EltTy → Type} (v : View sig κ sp S256x512 .bf16) (f : v.ty.Contents Val)
    (o : ℕ) (inb : ∀ a, (![0, o] : Fin 2 → ℕ) a + (![256, 128] : Fin 2 → ℕ) a ≤ S256x512.size a) (w : S256x128.Idx → Val .bf16)
    (L : List (View.Piece Val S256x512 .bf16)) (r : Fin 256) (e : Fin 128) (q : Fin 512) (hq : q.val = o + e.val) :
    v.read Val (v.writes Val f (⟨Rect.unit (s := S256x512) ![0, o] ![256, 128] inb, w⟩ :: L)) (ix2 r q) = w (ix2 r e) :=
  View.read_writes_cons_unit_of_mem (s := S256x512) v f (off := ![0, o]) (off' := ![0, o]) (size := ![256, 128]) inb w L (ix2 r q) (ix2 r e) rfl fun a => by
    fin_cases a
    · exact (Nat.zero_add r.val).symm
    · exact hq

/-- Four column blocks written into an array, read back. -/
theorem four_pieces {sig : RefSig} {κ : Kind} {sp : Space} {Val : EltTy → Type} (v : View sig κ sp S256x512 .bf16) (f : v.ty.Contents Val) (w : ℕ → S256x128.Idx → Val .bf16) (h : Fin 4) (r : Fin 256) (e : Fin 128) :
    v.read Val (v.writes Val f [⟨Rect.unit (s := S256x512) ![0, 384] ![256, 128] inb_S256x512_S256x128_0_384, w 3⟩, ⟨Rect.unit (s := S256x512) ![0, 256] ![256, 128] inb_S256x512_S256x128_0_256, w 2⟩, ⟨Rect.unit (s := S256x512) ![0, 128] ![256, 128] inb_S256x512_S256x128_0_128, w 1⟩, ⟨Rect.unit (s := S256x512) ![0, 0] ![256, 128] inb_S256x512_S256x128_0_0, w 0⟩])
      (ix2 r (⟨128 * h.val + e.val, by omega⟩ : Fin 512)) = w h.val (ix2 r e) := by
  fin_cases h
  · rw [View.read_writes_cons_unit_of_not_mem _ _ _ _ _ _ rfl 1 (Or.inl (by show 128 * (0 : ℕ) + e.val < 384; omega)),
      View.read_writes_cons_unit_of_not_mem _ _ _ _ _ _ rfl 1 (Or.inl (by show 128 * (0 : ℕ) + e.val < 256; omega)),
      View.read_writes_cons_unit_of_not_mem _ _ _ _ _ _ rfl 1 (Or.inl (by show 128 * (0 : ℕ) + e.val < 128; omega))]
    exact col_hit v f _ _ _ _ r e _ (by show _ = _ + e.val; simp)
  · rw [View.read_writes_cons_unit_of_not_mem _ _ _ _ _ _ rfl 1 (Or.inl (by show 128 * 1 + e.val < 384; omega)),
      View.read_writes_cons_unit_of_not_mem _ _ _ _ _ _ rfl 1 (Or.inl (by show 128 * 1 + e.val < 256; omega))]
    exact col_hit v f _ _ _ _ r e _ (by show _ = _ + e.val; simp)
  · rw [View.read_writes_cons_unit_of_not_mem _ _ _ _ _ _ rfl 1 (Or.inl (by show 128 * 2 + e.val < 384; omega))]
    exact col_hit v f _ _ _ _ r e _ (by show _ = _ + e.val; simp)
  · exact col_hit v f _ _ _ _ r e _ (by show _ = _ + e.val; simp)

section Block

variable (c : Dev nD) (i : grid0.Coords) (arg2 : Memref sig .tc .smem S1 .f32) (harg2 : arg2.IsWhole) (arg3 : Memref sig .tc .vmem S256x512 .f32)
  (harg3 : arg3.IsWhole) (arg4 : Memref sig .tc .vmem S4096x512 .bf16) (harg4 : arg4.IsWhole)
  (arg5 : Memref sig .tc .vmem S16x512x256 .bf16) (harg5 : arg5.IsWhole) (arg6 : Memref sig .tc .vmem S3x8x256x256 .f32)
  (harg6 : arg6.IsWhole) (arg7 : Memref sig .tc .vmem S1x128 .f32) (harg7 : arg7.IsWhole)
  (arg8 : Memref sig .tc .vmem S256x512 .bf16) (harg8 : arg8.IsWhole) (arg9 : Memref sig .tc .vmem S8x256x128 .bf16)
  (harg9 : arg9.IsWhole) (arg10 : Memref sig .tc .vmem S8x1x256 .f32) (harg10 : arg10.IsWhole)
  (arg11 : Memref sig .tc .vmem S8x1x256 .f32) (harg11 : arg11.IsWhole)
  (arg12 : Memref sig .tc .vmem S8x128x256 .f32) (harg12 : arg12.IsWhole)
  (x0 : Vec Ideal S1 .f32) (x1 : Vec Ideal S256x512 .f32) (x2 : Vec Ideal S4096x512 .bf16) (x3 : Vec Ideal S16x512x256 .bf16) (x4 : Vec Ideal S3x8x256x256 .f32) (x5 : Vec Ideal S1x128 .f32)

theorem qCols_apply (p : ℕ) (hp : p < 4) (r : Fin 256) (l : Fin 128) :
    qCols (F := Ideal) arg3 harg3 x1 p (ix2 r l) = x1 (ix2 r (⟨128 * p + l.val, by omega⟩ : Fin 512)) := by
  unfold qCols
  rw [View.readAt_eq_ld, harg3.read_unread]
  refine congrArg x1 (funext fun a => Fin.ext ?_)
  fin_cases a
  · show 0 + 1 * r.val = r.val
    omega
  · show 128 * (p % 4) + 1 * l.val = 128 * p + l.val
    omega

theorem read_g : View.readAt (Elt Ideal) arg7.view (Rect.unit (s := S1x128) ![0, 0] ![1, 128] inb_S1x128_S1x128_0_0).toLoadRect (harg7.unread x5) = x5 := by
  rw [View.readAt_eq_ld, harg7.read_unread]
  refine funext fun y => congrArg x5 (funext fun a => Fin.ext ?_)
  fin_cases a
  · show 0 + 1 * (y 0).val = (y 0).val
    omega
  · show 0 + 1 * (y 1).val = (y 1).val
    omega

/-- The score of key `j` of run `u` against query `r` of block `b`, of head map `n`, to base two. -/
def kScore (b n : ℕ) (r : Fin 256) (u : ℕ) (j : Fin 128) : EReal :=
  (∑ t : Fin 64, keySub (F := Ideal) x2 n u (ix2 j (⟨64 * (n % 2) + t.val, by omega⟩ : Fin 128))
      * (x1 (ix2 r (⟨(64 * n + t.val) % 512, Nat.mod_lt _ (by decide)⟩ : Fin 512)) * (((8 * (Real.log 2))⁻¹ : ℝ) : EReal)))
    + biasSub (F := Ideal) x4 b n u (ix4 0 0 j r) * (((Real.log 2)⁻¹ : ℝ) : EReal)

/-- The mean of the values under the scores: accumulator over denominator. -/
def kMean (b n : ℕ) (r : Fin 256) (d : Fin 128) : EReal :=
  Ideal.div (onAcc (kScore x1 x2 x4 b n r) (fun u j => valSub (F := Ideal) x3 n u (ix3 0 d j)) (2 * (b + 1)))
    (onDen (kScore x1 x2 x4 b n r) (2 * (b + 1)))

theorem score_eq (b n : ℕ) (hn : n < 8) (r : Fin 256) (u : ℕ) (j : Fin 128) :
    k0_pay4 (F := Ideal) (keySub (F := Ideal) x2 n u) (qW (F := Ideal) arg3 harg3 x1 n) (biasSub (F := Ideal) x4 b n u) (ix2 j r)
      = kScore x1 x2 x4 b n r u j := by
  rw [pay4_apply, kScore]
  congr 1
  rw [Fin.sum_univ_two_halves 64 64 rfl]
  have hx : ∀ a a' : Fin 512, a.val = a'.val → x1 (ix2 r a) = x1 (ix2 r a') := fun a a' h => congrArg (fun k => x1 (ix2 r k)) (Fin.ext h)
  rcases Nat.mod_two_eq_zero_or_one n with h | h
  · rw [Finset.sum_eq_zero (s := (Finset.univ : Finset (Fin 64))) (f := fun k => keySub (F := Ideal) x2 n u (ix2 j (⟨64 + k.val, _⟩ : Fin 128)) * _) , add_zero]
    · refine Finset.sum_congr rfl fun t _ => ?_
      rw [qW, if_pos h, pay326_apply, if_pos t.isLt, qCols_apply _ _ _ _ (by omega)]
      refine congrArg₂ _ (congrArg (fun k => keySub (F := Ideal) x2 n u (ix2 j k)) (Fin.ext (by show t.val = 64 * (n % 2) + t.val; omega))) (congrArg (· * _) (hx _ _ ?_))
      show 128 * (n / 2) + t.val = (64 * n + t.val) % 512
      omega
    · intro t _
      rw [qW, if_pos h, pay326_apply, if_neg (by show ¬ (64 + t.val < 64); omega), mul_zero]
  · rw [Finset.sum_eq_zero (s := (Finset.univ : Finset (Fin 64))) (f := fun k => keySub (F := Ideal) x2 n u (ix2 j (⟨k.val, _⟩ : Fin 128)) * _) , zero_add]
    · refine Finset.sum_congr rfl fun t _ => ?_
      rw [qW, if_neg (by omega), pay327_apply, if_neg (by show ¬ (64 + t.val < 64); omega), qCols_apply _ _ _ _ (by omega)]
      refine congrArg₂ _ (congrArg (fun k => keySub (F := Ideal) x2 n u (ix2 j k)) (Fin.ext (by show 64 + t.val = 64 * (n % 2) + t.val; omega))) (congrArg (· * _) (hx _ _ ?_))
      show 128 * (n / 2) + (64 + t.val) = (64 * n + t.val) % 512
      omega
    · intro t _
      rw [qW, if_neg (by omega), pay327_apply, if_pos t.isLt, mul_zero]

theorem mean_eq (n : ℕ) (hn : n < 8) (r : Fin 256) (d : Fin 128) :
    Ideal.div (accRow (F := Ideal) c i arg2 harg2 arg3 harg3 arg4 harg4 arg5 harg5 arg6 harg6 arg7 harg7 arg8 harg8 arg9 harg9 arg10 harg10 arg11 harg11 arg12 harg12 x1 x2 x3 x4 n (ix3 0 d r)) (denRow (F := Ideal) c i arg2 harg2 arg3 harg3 arg4 harg4 arg5 harg5 arg6 harg6 arg7 harg7 arg8 harg8 arg9 harg9 arg10 harg10 arg11 harg11 arg12 harg12 x1 x2 x3 x4 n (ix3 0 0 r))
      = kMean x1 x2 x3 x4 (i 1).val n r d := by
  rw [accRow_eq _ _ _ _ _ _ _ _ _ _ _ _ _ _ _ _ _ _ _ _ _ _ _ _ _ _ _ _ n hn, denRow_eq _ _ _ _ _ _ _ _ _ _ _ _ _ _ _ _ _ _ _ _ _ _ _ _ _ _ _ _ n hn,
    runAcc_apply, runDen_apply, qry_eq c arg3 harg3 arg9 x1 n hn, kMean]
  have h : (fun u j => k0_pay4 (F := Ideal) (keySub (F := Ideal) x2 n u) (qW (F := Ideal) arg3 harg3 x1 n) (biasSub (F := Ideal) x4 (i 1).val n u) (ix2 j r))
      = kScore x1 x2 x4 (i 1).val n r := funext fun u => funext fun j => score_eq arg3 harg3 x1 x2 x4 (i 1).val n hn r u j
  rw [h]

theorem headRow_apply (h : ℕ) (hh : h < 4) (r : Fin 256) (e : Fin 128) : headRow (F := Ideal) c i arg2 harg2 arg3 harg3 arg4 harg4 arg5 harg5 arg6 harg6 arg7 harg7 arg8 harg8 arg9 harg9 arg10 harg10 arg11 harg11 arg12 harg12 x0 x1 x2 x3 x4 x5 h (ix2 r e)
    = subln (fun e => kMean x1 x2 x3 x4 (i 1).val (2 * h) r e - x0 (ix1 0) * kMean x1 x2 x3 x4 (i 1).val (2 * h + 1) r e) (x5 (ix2 0 e)) e := by
  rw [headRow, headOut_apply, lam_read, read_g]
  simp only [mean_eq _ _ _ _ _ _ _ _ _ _ _ _ _ _ _ _ _ _ _ _ _ _ _ _ _ _ _ _ (2 * h) (by omega), mean_eq _ _ _ _ _ _ _ _ _ _ _ _ _ _ _ _ _ _ _ _ _ _ _ _ _ _ _ _ (2 * h + 1) (by omega)]

end Block

end Cert.KernelIdeal.Diff
-- ==== Proof.OutBlock.lean ====
/- One grid point's output block, at an index. -/
module

public import proofs.«01_k».proof.Proof.OutPt

@[expose] public section

set_option maxRecDepth 16384

noncomputable section

namespace Cert.KernelIdeal.Diff

open Cert.KernelIdeal Cert.KernelIdeal.Gen Idealize.ShloMosaic Idealize.ShloMosaic.TcCoe Idealize.SL.Sem

variable (c : Dev nD) (i : grid0.Coords) (arg2 : Memref sig .tc .smem S1 .f32) (harg2 : arg2.IsWhole) (arg3 : Memref sig .tc .vmem S256x512 .f32)
  (harg3 : arg3.IsWhole) (arg4 : Memref sig .tc .vmem S4096x512 .bf16) (harg4 : arg4.IsWhole)
  (arg5 : Memref sig .tc .vmem S16x512x256 .bf16) (harg5 : arg5.IsWhole) (arg6 : Memref sig .tc .vmem S3x8x256x256 .f32)
  (harg6 : arg6.IsWhole) (arg7 : Memref sig .tc .vmem S1x128 .f32) (harg7 : arg7.IsWhole)
  (arg8 : Memref sig .tc .vmem S256x512 .bf16) (harg8 : arg8.IsWhole) (arg9 : Memref sig .tc .vmem S8x256x128 .bf16)
  (harg9 : arg9.IsWhole) (arg10 : Memref sig .tc .vmem S8x1x256 .f32) (harg10 : arg10.IsWhole)
  (arg11 : Memref sig .tc .vmem S8x1x256 .f32) (harg11 : arg11.IsWhole)
  (arg12 : Memref sig .tc .vmem S8x128x256 .f32) (harg12 : arg12.IsWhole)
  (x0 : Vec Ideal S1 .f32) (x1 : Vec Ideal S256x512 .f32) (x2 : Vec Ideal S4096x512 .bf16) (x3 : Vec Ideal S16x512x256 .bf16) (x4 : Vec Ideal S3x8x256x256 .f32) (x5 : Vec Ideal S1x128 .f32)

/-- The block a grid point leaves, as its four pieces over an array of its own. -/
theorem out_eq : out0_A_6 (F := Ideal) c i arg2 harg2 arg3 harg3 arg4 harg4 arg5 harg5 arg6 harg6 arg7 harg7 arg8 harg8 arg9 harg9 arg10 harg10 arg11 harg11 arg12 harg12 x0 x1 x2 x3 x4 x5
    = VO0_6.read (Elt Ideal) (VO0_6.writes (Elt Ideal) VO0_6.junk (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).1) := rfl

theorem four_rows (w : ℕ → FVec Ideal S256x128 .bf16) (L : List (View.Piece (Elt Ideal) S256x512 .bf16))
    (hL : L = [⟨Rect.unit (s := S256x512) ![0, 384] ![256, 128] inb_S256x512_S256x128_0_384, w 3⟩, ⟨Rect.unit (s := S256x512) ![0, 256] ![256, 128] inb_S256x512_S256x128_0_256, w 2⟩, ⟨Rect.unit (s := S256x512) ![0, 128] ![256, 128] inb_S256x512_S256x128_0_128, w 1⟩, ⟨Rect.unit (s := S256x512) ![0, 0] ![256, 128] inb_S256x512_S256x128_0_0, w 0⟩])
    (h : Fin 4) (r : Fin 256) (e : Fin 128) :
    VO0_6.read (Elt Ideal) (VO0_6.writes (Elt Ideal) VO0_6.junk L) (ix2 r (⟨128 * h.val + e.val, by omega⟩ : Fin 512)) = w h.val (ix2 r e) := by
  subst hL
  exact four_pieces (Val := Elt Ideal) VO0_6 VO0_6.junk w h r e

/-- The output block of a grid point, at query `r`, head `h`, feature `e`. -/
theorem block_apply (h : Fin 4) (r : Fin 256) (e : Fin 128) :
    out0_A_6 (F := Ideal) c i arg2 harg2 arg3 harg3 arg4 harg4 arg5 harg5 arg6 harg6 arg7 harg7 arg8 harg8 arg9 harg9 arg10 harg10 arg11 harg11 arg12 harg12 x0 x1 x2 x3 x4 x5 (ix2 r (⟨128 * h.val + e.val, by omega⟩ : Fin 512))
      = subln (fun e => kMean x1 x2 x3 x4 (i 1).val (2 * h.val) r e - x0 (ix1 0) * kMean x1 x2 x3 x4 (i 1).val (2 * h.val + 1) r e) (x5 (ix2 0 e)) e :=
  (congrFun (out_eq c i arg2 harg2 arg3 harg3 arg4 harg4 arg5 harg5 arg6 harg6 arg7 harg7 arg8 harg8 arg9 harg9 arg10 harg10 arg11 harg11 arg12 harg12 x0 x1 x2 x3 x4 x5) _).trans
    ((four_rows (headRow (F := Ideal) c i arg2 harg2 arg3 harg3 arg4 harg4 arg5 harg5 arg6 harg6 arg7 harg7 arg8 harg8 arg9 harg9 arg10 harg10 arg11 harg11 arg12 harg12 x0 x1 x2 x3 x4 x5) _ (out_pieces (F := Ideal) c i arg2 harg2 arg3 harg3 arg4 harg4 arg5 harg5 arg6 harg6 arg7 harg7 arg8 harg8 arg9 harg9 arg10 harg10 arg11 harg11 arg12 harg12 x0 x1 x2 x3 x4 x5) h r e).trans
      (headRow_apply c i arg2 harg2 arg3 harg3 arg4 harg4 arg5 harg5 arg6 harg6 arg7 harg7 arg8 harg8 arg9 harg9 arg10 harg10 arg11 harg11 arg12 harg12 x0 x1 x2 x3 x4 x5 h.val h.isLt r e))

end Cert.KernelIdeal.Diff
-- ==== Proof.Bucket.lean ====
/- The bucket of a distance, and the bias of a distance, as both programs print them. -/
module

public import Idealize.ShloMosaic.Lib.Pointwise

@[expose] public section

noncomputable section

namespace Cert.KernelIdeal.Diff

open Idealize.ShloMosaic

/-- The bucket of distance `d`. -/
def bkt (d : BitVec 32) : BitVec 32 :=
  Scalar.select (IntOp.cmpi CmpIPredicate.slt (IntOp.maxsi d 0#32) 16#32) (IntOp.maxsi d 0#32)
    (IntOp.minsi (IntOp.addi 16#32 (FloatOps.fptosi (F := Ideal) (φ := .f32) 32
      (Ideal.div (Ideal.log (Ideal.div (FloatOps.sitofp (F := Ideal) FTy.f32 (IntOp.maxsi (IntOp.maxsi d 0#32) 1#32)) (Ideal.ofBits FTy.f32 0x41800000#32)))
        (Ideal.ofBits FTy.f32 0x40051592#32) * Ideal.ofBits FTy.f32 0x41800000#32 : EReal))) 31#32)

/-- The bias a tile holds at distance `d`: the table's row for its bucket as a sum over all rows, −∞ for later keys. -/
def tileBias (tab : Fin 32 → EReal) (d : BitVec 32) : EReal :=
  Scalar.select (IntOp.cmpi CmpIPredicate.sge d 0#32)
    (∑ x : Fin 32, FloatOps.uitofp (F := Ideal) FTy.f32 (IntOp.cmpi CmpIPredicate.eq (bkt d) (BitVec.ofNat 32 x.val)) * tab x : EReal) (Ideal.ofBits FTy.f32 0xFF800000#32)

end Cert.KernelIdeal.Diff
-- ==== Proof.Host.lean ====
/- The arrays the kernel's host prepares, each read at an index back to the arguments. -/
module

public import proofs.«01_k».proof.Proof.OutBlock
public import proofs.«01_k».proof.Proof.Gen.KernelIdeal.Value
public import proofs.«01_k».proof.Proof.Bucket
public import Idealize.ShloMosaic.Lib.Claim
public import Idealize.ShloMosaic.Lib.StableHlo.ReadAt
public import Idealize.ShloMosaic.Lib.Pipeline.ValueKit

@[expose] public section

set_option maxRecDepth 16384

noncomputable section

namespace Cert.KernelIdeal.Diff

open Cert.KernelIdeal Cert.KernelIdeal.Gen Idealize.ShloMosaic Idealize.ShloMosaic.TcCoe Idealize.SL.Sem

variable (m : (ℓ : Loc nD τ sig) → Buf (Elt Ideal) ℓ) (c : Dev nD)

/-- The queries, as the memory holds them. -/
abbrev argQ : S8x4096x4x2x64.Idx → EReal := m (c, Proc.tc.devRef main_arg0)
/-- The keys, as the memory holds them. -/
abbrev argK : S8x4096x4x2x64.Idx → EReal := m (c, Proc.tc.devRef main_arg1)
/-- The values, as the memory holds them. -/
abbrev argV : S8x4096x4x128.Idx → EReal := m (c, Proc.tc.devRef main_arg2)
/-- The table of biases, as the memory holds them. -/
abbrev argB : S32x16.Idx → EReal := m (c, Proc.tc.devRef main_arg3)
/-- The first vector of λ, as the memory holds them. -/
abbrev argL1 : S1x64.Idx → EReal := m (c, Proc.tc.devRef main_arg4)
/-- The second vector of λ, as the memory holds them. -/
abbrev argL2 : S1x64.Idx → EReal := m (c, Proc.tc.devRef main_arg5)
/-- The third vector of λ, as the memory holds them. -/
abbrev argL3 : S1x64.Idx → EReal := m (c, Proc.tc.devRef main_arg6)
/-- The fourth vector of λ, as the memory holds them. -/
abbrev argL4 : S1x64.Idx → EReal := m (c, Proc.tc.devRef main_arg7)
/-- The norm's gain, as the memory holds them. -/
abbrev argG : S1x128.Idx → EReal := m (c, Proc.tc.devRef main_arg8)

/-- The queries, one row a position of a batch, one column a feature of a head's half. -/
theorem V16_apply (y0 : Fin 32768) (y1 : Fin 512) : (V (F := Ideal) m c main_v16 : S32768x512.Idx → EReal) (ix2 y0 y1)
    = argQ m c
        (ix5 (⟨y0.val / 4096, by omega⟩ : Fin 8) (⟨y0.val % 4096, by omega⟩ : Fin 4096) (⟨y1.val / 128, by omega⟩ : Fin 4) (⟨y1.val / 64 % 2, by omega⟩ : Fin 2) (⟨y1.val % 64, by omega⟩ : Fin 64)) := by
  unfold V
  after_reads_at

/-- The keys, one row a position of a batch, one column a feature of a head's half. -/
theorem V18_apply (y0 : Fin 32768) (y1 : Fin 512) : (V (F := Ideal) m c main_v18 : S32768x512.Idx → EReal) (ix2 y0 y1)
    = argK m c
        (ix5 (⟨y0.val / 4096, by omega⟩ : Fin 8) (⟨y0.val % 4096, by omega⟩ : Fin 4096) (⟨y1.val / 128, by omega⟩ : Fin 4) (⟨y1.val / 64 % 2, by omega⟩ : Fin 2) (⟨y1.val % 64, by omega⟩ : Fin 64)) := by
  unfold V
  after_reads_at

/-- The values, transposed in tiles of 256 keys. -/
theorem V21_apply (a : Fin 128) (b : Fin 512) (d : Fin 256) : (V (F := Ideal) m c main_v21 : S128x512x256.Idx → EReal) (ix3 a b d)
    = argV m c (ix4 (⟨a.val / 16, by omega⟩ : Fin 8) (⟨a.val % 16 * 256 + d.val, by omega⟩ : Fin 4096) (⟨b.val / 128, by omega⟩ : Fin 4) (⟨b.val % 128, by omega⟩ : Fin 128)) := by
  unfold V
  after_reads_at

/-- The weight λ of the second map. -/
theorem V13_apply : (V (F := Ideal) m c main_v13 : S1.Idx → EReal) (ix1 0)
    = Ideal.exp (∑ x : Fin 64, argL1 m c (ix2 0 x) * argL2 m c (ix2 0 x))
        - Ideal.exp (∑ x : Fin 64, argL3 m c (ix2 0 x) * argL4 m c (ix2 0 x)) + Ideal.ofBits .f32 0x3E4CCCCD#32 := by
  unfold V
  after_reads_at

/-- The norm's gain. -/
theorem V15_apply (e : Fin 128) : (V (F := Ideal) m c main_v15 : S1x128.Idx → EReal) (ix2 0 e) = argG m c (ix2 0 e) := by
  unfold V
  after_reads_at

/-- The bias tile of key blocks 0 behind the queries' block. -/
theorem V125_at0 (h : Fin 8) (y x : Fin 256) : (V (F := Ideal) m c main_v125 : S3x8x256x256.Idx → EReal) (ix4 (⟨0, by decide⟩ : Fin 3) h y x)
    = tileBias (fun k => argB m c (ix2 k (⟨8 + h.val, by omega⟩ : Fin 16)))
        (IntOp.subi (IntOp.addi 0#32 (BitVec.ofNat 32 x.val)) (BitVec.ofNat 32 y.val)) := by
  unfold V
  after_reads_at
  rw [StableHlo.unary_result]
  after_reads_at
  rfl

/-- The bias tile of key blocks 1 behind the queries' block. -/
theorem V125_at1 (h : Fin 8) (y x : Fin 256) : (V (F := Ideal) m c main_v125 : S3x8x256x256.Idx → EReal) (ix4 (⟨1, by decide⟩ : Fin 3) h y x)
    = tileBias (fun k => argB m c (ix2 k (⟨8 + h.val, by omega⟩ : Fin 16)))
        (IntOp.subi (IntOp.addi 256#32 (BitVec.ofNat 32 x.val)) (BitVec.ofNat 32 y.val)) := by
  unfold V
  after_reads_at
  rw [StableHlo.unary_result]
  after_reads_at
  rfl

/-- The bias tile of key blocks 2 behind the queries' block. -/
theorem V125_at2 (h : Fin 8) (y x : Fin 256) : (V (F := Ideal) m c main_v125 : S3x8x256x256.Idx → EReal) (ix4 (⟨2, by decide⟩ : Fin 3) h y x)
    = tileBias (fun k => argB m c (ix2 k (⟨8 + h.val, by omega⟩ : Fin 16)))
        (IntOp.subi (IntOp.addi 512#32 (BitVec.ofNat 32 x.val)) (BitVec.ofNat 32 y.val)) := by
  unfold V
  after_reads_at
  rw [StableHlo.unary_result]
  after_reads_at
  rfl

end Cert.KernelIdeal.Diff
-- ==== Proof.Windows.lean ====
/- The blocks that a grid point reads, each entry as an entry of the array that the window cuts. -/
module

public import proofs.«01_k».proof.Proof.Host

@[expose] public section

set_option maxRecDepth 16384

noncomputable section

namespace Cert.KernelIdeal.Diff

open Cert.KernelIdeal Cert.KernelIdeal.Gen Idealize.ShloMosaic Idealize.ShloMosaic.TcCoe Idealize.SL.Sem

variable (m : (ℓ : Loc nD τ sig) → Buf (Elt Ideal) ℓ) (c : Dev nD)

theorem coords_batch : ∀ t : Fin cfg0.N, (grid0.coords t 0).val = t.val / 16 :=
  (by decide +kernel : ∀ t : Fin grid0.N, (grid0.coords t 0).val = t.val / 16)
theorem coords_block : ∀ t : Fin cfg0.N, (grid0.coords t 1).val = t.val % 16 :=
  (by decide +kernel : ∀ t : Fin grid0.N, (grid0.coords t 1).val = t.val % 16)
theorem index0 : ∀ t : Fin grid0.N, win0_0.index t = ![0] := by decide +kernel
theorem index1 : ∀ t : Fin grid0.N, win0_1.index t = ![t.val, 0] := by decide +kernel
theorem index2 : ∀ t : Fin grid0.N, win0_2.index t = ![t.val / 16, 0] := by decide +kernel
theorem index3 : ∀ t : Fin grid0.N, win0_3.index t = ![t.val / 16, 0, 0] := by decide +kernel
theorem index4 : ∀ t : Fin grid0.N, win0_4.index t = ![0, 0, 0, 0] := by decide +kernel
theorem index5 : ∀ t : Fin grid0.N, win0_5.index t = ![0, 0] := by decide +kernel
theorem index6 : ∀ t : Fin grid0.N, win0_6.index t = ![t.val, 0] := by decide +kernel

theorem t_lt (t : Fin cfg0.N) : t.val < 128 := t.isLt

theorem blk0 (t : Fin cfg0.N) : (iblk (F := Ideal) m c 0 t : S1.Idx → EReal) (ix1 0) = (V (F := Ideal) m c main_v13 : S1.Idx → EReal) (ix1 0) := by
  refine congrArg (V (F := Ideal) m c main_v13 : S1.Idx → EReal) (funext fun a => Fin.ext ?_)
  blk_simp [index0]
  match a with
  | ⟨0, _⟩ => simp
theorem blk1 (t : Fin cfg0.N) (r : Fin 256) (l : Fin 512) : (iblk (F := Ideal) m c 1 t : S256x512.Idx → EReal) (ix2 r l)
    = (V (F := Ideal) m c main_v16 : S32768x512.Idx → EReal) (ix2 (⟨256 * t.val + r.val, by have := t_lt t; omega⟩ : Fin 32768) l) := by
  refine congrArg (V (F := Ideal) m c main_v16 : S32768x512.Idx → EReal) (funext fun a => Fin.ext ?_)
  blk_simp [index1]
  match a with
  | ⟨0, _⟩ => simp; try omega
  | ⟨1, _⟩ => simp
theorem blk2 (t : Fin cfg0.N) (r : Fin 4096) (l : Fin 512) : (iblk (F := Ideal) m c 2 t : S4096x512.Idx → EReal) (ix2 r l)
    = (V (F := Ideal) m c main_v18 : S32768x512.Idx → EReal) (ix2 (⟨4096 * (t.val / 16) + r.val, by have := t_lt t; omega⟩ : Fin 32768) l) := by
  refine congrArg (V (F := Ideal) m c main_v18 : S32768x512.Idx → EReal) (funext fun a => Fin.ext ?_)
  blk_simp [index2]
  match a with
  | ⟨0, _⟩ => simp; try omega
  | ⟨1, _⟩ => simp
theorem blk3 (t : Fin cfg0.N) (u : Fin 16) (l : Fin 512) (d : Fin 256) : (iblk (F := Ideal) m c 3 t : S16x512x256.Idx → EReal) (ix3 u l d)
    = (V (F := Ideal) m c main_v21 : S128x512x256.Idx → EReal) (ix3 (⟨16 * (t.val / 16) + u.val, by have := t_lt t; omega⟩ : Fin 128) l d) := by
  refine congrArg (V (F := Ideal) m c main_v21 : S128x512x256.Idx → EReal) (funext fun a => Fin.ext ?_)
  blk_simp [index3]
  match a with
  | ⟨0, _⟩ => simp; try omega
  | ⟨1, _⟩ => simp
  | ⟨2, _⟩ => simp
theorem blk4 (t : Fin cfg0.N) (y : S3x8x256x256.Idx) : (iblk (F := Ideal) m c 4 t : S3x8x256x256.Idx → EReal) y
    = (V (F := Ideal) m c main_v125 : S3x8x256x256.Idx → EReal) y := by
  refine congrArg (V (F := Ideal) m c main_v125 : S3x8x256x256.Idx → EReal) (funext fun a => Fin.ext ?_)
  blk_simp [index4]
  match a with
  | ⟨0, _⟩ => simp
  | ⟨1, _⟩ => simp
  | ⟨2, _⟩ => simp
  | ⟨3, _⟩ => simp
theorem blk5 (t : Fin cfg0.N) (e : Fin 128) : (iblk (F := Ideal) m c 5 t : S1x128.Idx → EReal) (ix2 0 e)
    = (V (F := Ideal) m c main_v15 : S1x128.Idx → EReal) (ix2 0 e) := by
  refine congrArg (V (F := Ideal) m c main_v15 : S1x128.Idx → EReal) (funext fun a => Fin.ext ?_)
  blk_simp [index5]
  match a with
  | ⟨0, _⟩ => simp
  | ⟨1, _⟩ => simp

end Cert.KernelIdeal.Diff
-- ==== Proof.Table.lean ====
/- Facts of the bucket of a distance: it is a row of the table, and the last row from 257 positions on. -/
module

public import proofs.«01_k».proof.Proof.Bucket
public import Mathlib.Analysis.SpecialFunctions.Log.Basic

@[expose] public section

noncomputable section

namespace Cert.KernelIdeal.Diff

open Idealize.ShloMosaic

theorem c16 : Ideal.ofBits FTy.f32 0x41800000#32 = ((16 : ℝ) : EReal) := by
  simp [Ideal.ofBits, Ideal.ieee, -EReal.coe_mul]; norm_num

theorem clog : Ideal.ofBits FTy.f32 0x40051592#32 = ((8721810 / 4194304 : ℝ) : EReal) := by
  simp [Ideal.ofBits, Ideal.ieee, -EReal.coe_mul]; norm_num

/-- The real that a distance of 16 or more is scaled to. -/
def scaled (n : ℕ) : ℝ := Real.log (n / 16) / (8721810 / 4194304) * 16

theorem scaled_nonneg (n : ℕ) (h : 16 ≤ n) : 0 ≤ scaled n := by
  unfold scaled
  have h1 : (1 : ℝ) ≤ (n : ℝ) / 16 := by
    rw [le_div_iff₀ (by norm_num)]; have : (16 : ℝ) ≤ n := by exact_mod_cast h
    linarith
  have := Real.log_nonneg h1
  positivity

theorem scaled_le (n : ℕ) (h : 16 ≤ n) (h2 : n ≤ 4095) : scaled n ≤ 4000 := by
  unfold scaled
  have h0 : (0 : ℝ) < (n : ℝ) / 16 := by
    have : (16 : ℝ) ≤ n := by exact_mod_cast h
    positivity
  have h1 := Real.log_le_sub_one_of_pos h0
  have h3 : (n : ℝ) ≤ 4095 := by exact_mod_cast h2
  have h4 : Real.log ((n : ℝ) / 16) ≤ 256 := by linarith [show (n : ℝ) / 16 ≤ 256 by rw [div_le_iff₀ (by norm_num)]; linarith]
  rw [div_mul_eq_mul_div, div_le_iff₀ (by norm_num)]
  linarith

theorem le_scaled (n : ℕ) (h : 256 ≤ n) : 15 ≤ scaled n := by
  unfold scaled
  have h0 : (16 : ℝ) ≤ (n : ℝ) / 16 := by
    rw [le_div_iff₀ (by norm_num)]; have : (256 : ℝ) ≤ n := by exact_mod_cast h
    linarith
  have h1 : Real.log 16 ≤ Real.log ((n : ℝ) / 16) := Real.log_le_log (by norm_num) h0
  have h2 : Real.log 16 = 4 * Real.log 2 := by
    rw [show (16 : ℝ) = 2 ^ (4 : ℕ) by norm_num, Real.log_pow]; norm_num
  have h3 : (1 : ℝ) - 2⁻¹ ≤ Real.log 2 := Real.one_sub_inv_le_log_of_pos (by norm_num)
  rw [div_mul_eq_mul_div, le_div_iff₀ (by norm_num)]
  linarith

/-- The bucket of a distance as a number. -/
def bktNat (n : ℕ) : ℕ := if n < 16 then n else min (16 + ⌊scaled n⌋.toNat) 31

theorem bktNat_lt (n : ℕ) : bktNat n < 32 := by
  unfold bktNat; split <;> omega

theorem bktNat_far (n : ℕ) (h : 256 ≤ n) : bktNat n = 31 := by
  unfold bktNat
  rw [if_neg (by omega)]
  have h1 : (15 : ℤ) ≤ ⌊scaled n⌋ := Int.le_floor.2 (by exact_mod_cast le_scaled n h)
  omega

theorem small_toInt (n : ℕ) (h : n ≤ 4095) : (BitVec.ofNat 32 n).toInt = n := by
  have h1 : (BitVec.ofNat 32 n).toNat = n := by rw [BitVec.toNat_ofNat]; omega
  rw [BitVec.toInt_eq_toNat_of_lt (by rw [h1]; omega), h1]

theorem fptosi_scaled (n : ℕ) (h : 16 ≤ n) (h2 : n ≤ 4095) :
    FloatOps.fptosi (F := Ideal) (φ := .f32) 32 (Ideal.div (Ideal.log (Ideal.div (((n : ℝ)) : EReal) (Ideal.ofBits FTy.f32 0x41800000#32)))
        (Ideal.ofBits FTy.f32 0x40051592#32) * Ideal.ofBits FTy.f32 0x41800000#32 : EReal) = BitVec.ofNat 32 ⌊scaled n⌋.toNat := by
  have hn : (0 : ℝ) < (n : ℝ) / 16 := by
    have : (16 : ℝ) ≤ n := by exact_mod_cast h
    positivity
  have e1 : Ideal.div (((n : ℝ)) : EReal) (((16 : ℝ)) : EReal) = (((n : ℝ) / 16 : ℝ) : EReal) := by
    rw [Ideal.div_coe (by norm_num), ← EReal.coe_mul]; congr 1; ring
  rw [c16, clog, e1, Ideal.log_coe, if_neg (not_le.2 hn), Ideal.div_coe (by norm_num), ← EReal.coe_mul, ← EReal.coe_mul]
  have e2 : Real.log ((n : ℝ) / 16) * (1 / (8721810 / 4194304)) * 16 = scaled n := by unfold scaled; ring
  rw [e2]
  have h0 := scaled_nonneg n h
  have h3 : ⌊scaled n⌋ ≤ 4000 := by
    have := Int.floor_mono (scaled_le n h h2)
    rwa [show ((4000 : ℝ)) = ((4000 : ℤ) : ℝ) by norm_num, Int.floor_intCast] at this
  have h4 : 0 ≤ ⌊scaled n⌋ := Int.floor_nonneg.2 h0
  show Ideal.fptosi 32 ((scaled n : ℝ) : EReal) = _
  unfold Ideal.fptosi
  rw [Ideal.toIntClamped_coe, if_pos h0]
  have h5 : max (-((2 ^ (32 - 1) : ℕ) : ℤ)) (min (((2 ^ (32 - 1) : ℕ) : ℤ) - 1) ⌊scaled n⌋) = ((⌊scaled n⌋.toNat : ℕ) : ℤ) := by
    norm_num; omega
  rw [h5, BitVec.ofInt_natCast]

theorem slt_small (a b : ℕ) (ha : a ≤ 4095) (hb : b ≤ 4095) : (BitVec.ofNat 32 a).slt (BitVec.ofNat 32 b) = decide (a < b) := by
  rw [BitVec.slt_eq_decide, small_toInt a ha, small_toInt b hb]
  exact decide_eq_decide.2 Nat.cast_lt

theorem maxsi_small (a b : ℕ) (ha : a ≤ 4095) (hb : b ≤ a) : IntOp.maxsi (BitVec.ofNat 32 a) (BitVec.ofNat 32 b) = BitVec.ofNat 32 a := by
  unfold IntOp.maxsi
  rw [slt_small b a (by omega) ha]
  by_cases h : b < a
  · rw [decide_eq_true h, if_pos rfl]
  · rw [decide_eq_false h, if_neg (by decide), show b = a by omega]

theorem minsi_small (a b : ℕ) (ha : a ≤ 4095) (hb : b ≤ 4095) : IntOp.minsi (BitVec.ofNat 32 a) (BitVec.ofNat 32 b) = BitVec.ofNat 32 (min a b) := by
  unfold IntOp.minsi
  rw [slt_small a b ha hb]
  by_cases h : a < b
  · rw [decide_eq_true h, if_pos rfl, min_eq_left (by omega)]
  · rw [decide_eq_false h, if_neg (by decide), min_eq_right (by omega)]

theorem cmpi_slt_small (a b : ℕ) (ha : a ≤ 4095) (hb : b ≤ 4095) :
    IntOp.cmpi CmpIPredicate.slt (BitVec.ofNat 32 a) (BitVec.ofNat 32 b) = BitVec.ofBool (decide (a < b)) :=
  congrArg BitVec.ofBool (slt_small a b ha hb)

theorem sitofp_small (k : ℕ) (hk : k ≤ 4095) : FloatOps.sitofp (F := Ideal) FTy.f32 (BitVec.ofNat 32 k) = (((k : ℝ)) : EReal) := by
  show (((BitVec.ofNat 32 k).toInt : ℝ) : EReal) = _
  rw [small_toInt k hk]; norm_cast

/-- The bucket of a small distance is its number's word. -/
theorem bkt_ofNat (n : ℕ) (h2 : n ≤ 4095) : bkt (BitVec.ofNat 32 n) = BitVec.ofNat 32 (bktNat n) := by
  have hmax0 := maxsi_small n 0 h2 (by omega)
  have hc := cmpi_slt_small n 16 h2 (by omega)
  unfold bkt
  rw [hmax0]
  unfold bktNat
  by_cases h : n < 16
  · rw [if_pos h, hc, decide_eq_true h]; rfl
  · have h3 : ⌊scaled n⌋ ≤ 4000 := by
      have := Int.floor_mono (scaled_le n (by omega) h2)
      rwa [show ((4000 : ℝ)) = ((4000 : ℤ) : ℝ) by norm_num, Int.floor_intCast] at this
    have ha : IntOp.addi 16#32 (BitVec.ofNat 32 ⌊scaled n⌋.toNat) = BitVec.ofNat 32 (16 + ⌊scaled n⌋.toNat) := by
      unfold IntOp.addi; rw [BitVec.ofNat_add]
    rw [if_neg h, hc, decide_eq_false h, maxsi_small n 1 h2 (by omega), sitofp_small n h2, fptosi_scaled n (by omega) h2, ha]
    exact minsi_small _ 31 (by omega) (by omega)

/-- The reference's row for a small distance is its bucket. -/
theorem row_eq (n : ℕ) (h2 : n ≤ 4095) :
    min (Scalar.select (IntOp.cmpi CmpIPredicate.slt (bkt (BitVec.ofNat 32 n)) 0#32) (IntOp.addi (bkt (BitVec.ofNat 32 n)) 32#32) (bkt (BitVec.ofNat 32 n))).toInt.toNat 31 = bktNat n := by
  have hl := bktNat_lt n
  rw [bkt_ofNat n h2, cmpi_slt_small (bktNat n) 0 (by omega) (by omega), decide_eq_false (by omega)]
  show min (BitVec.ofNat 32 (bktNat n)).toInt.toNat 31 = _
  rw [small_toInt (bktNat n) (by omega)]
  omega

theorem sge_small (n : ℕ) (h2 : n ≤ 4095) : IntOp.cmpi CmpIPredicate.sge (BitVec.ofNat 32 n) 0#32 = 1#1 := by
  show BitVec.ofBool (BitVec.sle 0#32 (BitVec.ofNat 32 n)) = 1#1
  rw [BitVec.sle_eq_decide, small_toInt n h2, decide_eq_true (by simp)]
  rfl

/-- A word that the machine reads as negative is not at least zero. -/
theorem sge_neg (d : BitVec 32) (h : d.toInt < 0) : IntOp.cmpi CmpIPredicate.sge d 0#32 = 0#1 := by
  show BitVec.ofBool (BitVec.sle 0#32 d) = 0#1
  rw [BitVec.sle_eq_decide, decide_eq_false (by simpa using h)]
  rfl

/-- The tile's bias at a small distance: the table at its bucket. -/
theorem tileBias_pos (tab : Fin 32 → EReal) (n : ℕ) (h2 : n ≤ 4095) : tileBias tab (BitVec.ofNat 32 n) = tab ⟨bktNat n, bktNat_lt n⟩ := by
  unfold tileBias
  rw [sge_small n h2, bkt_ofNat n h2]
  change (∑ x : Fin 32, FloatOps.uitofp (F := Ideal) FTy.f32 (IntOp.cmpi CmpIPredicate.eq (BitVec.ofNat 32 (bktNat n)) (BitVec.ofNat 32 x.val)) * tab x : EReal) = _
  rw [Finset.sum_eq_single (⟨bktNat n, bktNat_lt n⟩ : Fin 32)]
  · have : IntOp.cmpi CmpIPredicate.eq (BitVec.ofNat 32 (bktNat n)) (BitVec.ofNat 32 (bktNat n)) = 1#1 := by
      show BitVec.ofBool (_ == _) = _
      rw [beq_self_eq_true]; rfl
    rw [this]
    show (((1#1 : BitVec 1).toNat : ℝ) : EReal) * _ = _
    norm_num
  · intro x _ hx
    have hne : (BitVec.ofNat 32 (bktNat n)) ≠ BitVec.ofNat 32 x.val := by
      intro e
      have e2 := congrArg BitVec.toInt e
      rw [small_toInt _ (by have := bktNat_lt n; omega), small_toInt _ (by omega)] at e2
      exact hx (Fin.ext (by exact_mod_cast e2.symm))
    have : IntOp.cmpi CmpIPredicate.eq (BitVec.ofNat 32 (bktNat n)) (BitVec.ofNat 32 x.val) = 0#1 := by
      show BitVec.ofBool (_ == _) = _
      rw [beq_eq_false_iff_ne.2 hne]; rfl
    rw [this]
    show (((0#1 : BitVec 1).toNat : ℝ) : EReal) * _ = _
    norm_num
  · intro h; exact absurd (Finset.mem_univ _) h

/-- The tile's bias for a later key. -/
theorem tileBias_neg (tab : Fin 32 → EReal) (d : BitVec 32) (h : d.toInt < 0) : tileBias tab d = ⊥ := by
  unfold tileBias
  rw [sge_neg d h]
  rfl

/-- A difference of two small words, in order. -/
theorem subi_small (a b : ℕ) (ha : a ≤ 4095) (hb : b ≤ a) : IntOp.subi (BitVec.ofNat 32 a) (BitVec.ofNat 32 b) = BitVec.ofNat 32 (a - b) := by
  unfold IntOp.subi
  apply BitVec.eq_of_toNat_eq
  simp only [BitVec.toNat_sub, BitVec.toNat_ofNat]
  omega

/-- A difference of two small words, out of order. -/
theorem subi_neg (a b : ℕ) (ha : a < b) (hb : b ≤ 4095) : (IntOp.subi (BitVec.ofNat 32 a) (BitVec.ofNat 32 b)).toInt < 0 := by
  unfold IntOp.subi
  rw [BitVec.toInt_sub, small_toInt a (by omega), small_toInt b hb, Int.bmod_def]
  split <;> omega
end Cert.KernelIdeal.Diff
-- ==== Proof.Ref.lean ====
/- The reference, read at an index. -/
module

public import proofs.«01_k».proof.Proof.Bucket
public import proofs.«01_k».proof.Proof.Gen.ReferenceIdeal.Run
public import Idealize.ShloMosaic.Lib.Claim
public import Idealize.ShloMosaic.Lib.StableHlo.ReadAt
public import Idealize.ShloMosaic.Lib.Pointwise

@[expose] public section

set_option maxRecDepth 16384

noncomputable section

namespace Cert.ReferenceIdeal.Diff

open Cert.ReferenceIdeal Cert.ReferenceIdeal.Gen Cert.ReferenceIdeal.Value Idealize.ShloMosaic Idealize.ShloMosaic.TcCoe Idealize.SL.Sem

variable (V0 : Valuation τ sig (Elt Ideal))

/-- The distance from key `k` to query `t`. -/
abbrev dist (t k : Fin 4096) : BitVec 32 := IntOp.subi (BitVec.ofNat 32 t.val) (BitVec.ofNat 32 k.val)

theorem dist_apply (t k : Fin 4096) : (res_main_v22 (F := Ideal) V0 : S4096x4096.Idx → BitVec 32) (ix2 t k) = dist t k := by
  unfold res_main_v22 res_main_v14
  pointwise

theorem bkt_apply (t k : Fin 4096) : (res_main_v42 (F := Ideal) V0 : S4096x4096.Idx → BitVec 32) (ix2 t k) = KernelIdeal.Diff.bkt (dist t k) := by
  unfold res_main_v42 res_main_v24
  pointwise
  rw [dist_apply]
  rfl

/-- The gather of the table's rows at an entry: the row its index word names, clamped into the table. -/
theorem gather_apply {α : Type} (x : S32x4x2.Idx → α) (idx : IVec S4096x4096x1 32) (t k : Fin 4096) (h : Fin 4) (s : Fin 2) :
    Host.gather gather_S32x4x2_S4096x4096x1_S4096x4096x4x2_23_0_n_n_0_2_142 x idx (ix4 t k h s)
      = x (ix3 (⟨min (idx (ix3 t k 0)).toInt.toNat 31, by omega⟩ : Fin 32) h s) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x4x2_S4096x4096x1_S4096x4096x4x2_23_0_n_n_0_2_142.startIndexMap from List.mem_singleton.mpr rfl)]
    have hsi : gather_S32x4x2_S4096x4096x1_S4096x4096x4x2_23_0_n_n_0_2_142.siIdx (ix4 t k h s) ⟨List.idxOf (0 : Fin 3) gather_S32x4x2_S4096x4096x1_S4096x4096x4x2_23_0_n_n_0_2_142.startIndexMap,
        List.idxOf_lt_length_iff.2 (List.mem_singleton.mpr rfl)⟩ = ix3 t k 0 := by
      funext b; refine Fin.ext ?_
      match b with
      | ⟨0, _⟩ => rfl
      | ⟨1, _⟩ => rfl
      | ⟨2, _⟩ => rfl
    rw [hsi]
    rfl
  · unfold GatherDims.start GatherDims.offCoord
    rw [dif_neg (show ((1 : Fin 3)) ∉ gather_S32x4x2_S4096x4096x1_S4096x4096x4x2_23_0_n_n_0_2_142.startIndexMap from by decide),
      dif_pos (show ((1 : Fin 3)) ∈ gather_S32x4x2_S4096x4096x1_S4096x4096x4x2_23_0_n_n_0_2_142.sKept from by decide)]
    simp only [Nat.zero_add]
    rfl
  · unfold GatherDims.start GatherDims.offCoord
    rw [dif_neg (show ((2 : Fin 3)) ∉ gather_S32x4x2_S4096x4096x1_S4096x4096x4x2_23_0_n_n_0_2_142.startIndexMap from by decide),
      dif_pos (show ((2 : Fin 3)) ∈ gather_S32x4x2_S4096x4096x1_S4096x4096x4x2_23_0_n_n_0_2_142.sKept from by decide)]
    simp only [Nat.zero_add]
    rfl

/-- A fold over the last of five axes. -/
theorem max_last (op : EReal → EReal → EReal) [Std.Commutative op] [Std.Associative op] (f : S8x4x2x4096x4096.Idx → EReal) (z : EReal) (b : Fin 8) (h : Fin 4) (s : Fin 2) (t : Fin 4096)
    (inst : DecidablePred fun i : S8x4x2x4096x4096.Idx => reducesTo_S8x4x2x4096x4096_S8x4x2x4096_d4.drop i = ix4 b h s t) :
    Finset.fold op z f (@Finset.filter _ (fun i : S8x4x2x4096x4096.Idx => reducesTo_S8x4x2x4096x4096_S8x4x2x4096_d4.drop i = ix4 b h s t) inst Finset.univ) = Finset.univ.fold op z (fun k : Fin 4096 => f (ix5 b h s t k)) := by
  have hd : ∀ i : S8x4x2x4096x4096.Idx, reducesTo_S8x4x2x4096x4096_S8x4x2x4096_d4.drop i = ix4 (i 0) (i 1) (i 2) (i 3) := by
    intro i
    funext a
    match a with
    | ⟨0, _⟩ => rfl
    | ⟨1, _⟩ => rfl
    | ⟨2, _⟩ => rfl
    | ⟨3, _⟩ => rfl
  have hs : @Finset.filter _ (fun i : S8x4x2x4096x4096.Idx => reducesTo_S8x4x2x4096x4096_S8x4x2x4096_d4.drop i = ix4 b h s t) inst Finset.univ
      = Finset.univ.image (fun k : Fin 4096 => (ix5 b h s t k : S8x4x2x4096x4096.Idx)) := by
    ext i
    rw [Finset.mem_filter, Finset.mem_image, hd]
    constructor
    · rintro ⟨_, h1⟩
      refine ⟨i 4, Finset.mem_univ _, ?_⟩
      have e0 := congrFun h1 0
      have e1 := congrFun h1 1
      have e2 := congrFun h1 2
      have e3 := congrFun h1 3
      funext a
      match a with
      | ⟨0, _⟩ => exact e0.symm
      | ⟨1, _⟩ => exact e1.symm
      | ⟨2, _⟩ => exact e2.symm
      | ⟨3, _⟩ => exact e3.symm
      | ⟨4, _⟩ => rfl
    · rintro ⟨k, _, rfl⟩
      exact ⟨Finset.mem_univ _, rfl⟩
  rw [hs, Finset.fold_image fun k _ k' _ e => congrFun e 4]
  rfl

/-- The arguments, each as the array that the valuation holds. -/
abbrev argQ : S8x4096x4x2x64.Idx → EReal := V0 (Proc.tc.devRef main_arg0)
abbrev argK : S8x4096x4x2x64.Idx → EReal := V0 (Proc.tc.devRef main_arg1)
abbrev argV : S8x4096x4x128.Idx → EReal := V0 (Proc.tc.devRef main_arg2)
abbrev argB : S32x16.Idx → EReal := V0 (Proc.tc.devRef main_arg3)
abbrev argL1 : S1x64.Idx → EReal := V0 (Proc.tc.devRef main_arg4)
abbrev argL2 : S1x64.Idx → EReal := V0 (Proc.tc.devRef main_arg5)
abbrev argL3 : S1x64.Idx → EReal := V0 (Proc.tc.devRef main_arg6)
abbrev argL4 : S1x64.Idx → EReal := V0 (Proc.tc.devRef main_arg7)
abbrev argG : S1x128.Idx → EReal := V0 (Proc.tc.devRef main_arg8)

/-- The table's row for a distance, as the reference indexes it: a negative bucket counts from the table's end. -/
def row (d : BitVec 32) : Fin 32 :=
  ⟨min (Scalar.select (IntOp.cmpi CmpIPredicate.slt (KernelIdeal.Diff.bkt d) 0#32) (IntOp.addi (KernelIdeal.Diff.bkt d) 32#32) (KernelIdeal.Diff.bkt d)).toInt.toNat 31, by omega⟩

/-- The logit of key `k` for query `t`: −∞ for a later key, else the scaled product with the bias of the distance. -/
def logit (b : Fin 8) (h : Fin 4) (s : Fin 2) (t k : Fin 4096) : EReal :=
  Scalar.select (IntOp.cmpi CmpIPredicate.sge (dist t k) 0#32)
    ((∑ x : Fin 64, argQ V0 (ix5 b t h s x) * argK V0 (ix5 b k h s x)) * Ideal.ofBits .f32 0x3E000000#32
      + argB V0 (ix2 (row (dist t k)) (⟨8 + (h.val * 2 + s.val), by omega⟩ : Fin 16))) (Ideal.ofBits .f32 0xFF800000#32)

theorem logit_apply (b : Fin 8) (h : Fin 4) (s : Fin 2) (t k : Fin 4096) :
    (res_main_v56 (F := Ideal) V0 : S8x4x2x4096x4096.Idx → EReal) (ix5 b h s t k) = logit V0 b h s t k := by
  have hd := dist_apply V0 t k
  have hb := bkt_apply V0 t k
  unfold res_main_v56
  generalize res_main_v22 (F := Ideal) V0 = u at hd ⊢
  generalize res_main_v42 (F := Ideal) V0 = w at hb ⊢
  pointwise
  rw [gather_apply]
  pointwise
  simp only [hd, hb]
  rfl

/-- The row's maximum. -/
def top (b : Fin 8) (h : Fin 4) (s : Fin 2) (t : Fin 4096) : EReal := max ⊥ (Finset.univ.fold max ⊥ (logit V0 b h s t))

theorem reduce_read (w : FVec Ideal S8x4x2x4096x4096 .f32) (z : FVec Ideal S_ .f32) (b : Fin 8) (h : Fin 4) (s : Fin 2) (t : Fin 4096) :
    (Host.reduce (FloatOps.maximumf (F := Ideal) (φ := .f32)) w z reducesTo_S8x4x2x4096x4096_S8x4x2x4096_d4 h_S_ : S8x4x2x4096.Idx → EReal) (ix4 b h s t)
      = Finset.univ.fold (max : EReal → EReal → EReal) (z (Shape.Idx.first h_S_)) fun k : Fin 4096 => w (ix5 b h s t k) :=
  (Host.reduce_eq_fold (f := (FloatOps.maximumf : Ideal .f32 → Ideal .f32 → Ideal .f32)) w z reducesTo_S8x4x2x4096x4096_S8x4x2x4096_d4 h_S_ (ix4 b h s t)).trans
    (max_last (max : EReal → EReal → EReal) w (z (Shape.Idx.first h_S_)) b h s t _)

theorem exp_read (w : FVec Ideal S8x4x2x4096x4096 .f32) (r : FVec Ideal S8x4x2x4096 .f32) (b : Fin 8) (h : Fin 4) (s : Fin 2) (t k : Fin 4096) :
    (Host.exp (subf w (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 (maximumf (broadcastInDim S8x4x2x4096 ![] bcast_S_S8x4x2x4096 (constant S_ .f32 0xFF800000#32)) r)))) : S8x4x2x4096x4096.Idx → EReal) (ix5 b h s t k)
      = Ideal.exp (w (ix5 b h s t k) - max (Ideal.ofBits .f32 0xFF800000#32) (r (ix4 b h s t))) := by
  pointwise

theorem exp_apply (b : Fin 8) (h : Fin 4) (s : Fin 2) (t k : Fin 4096) :
    (res_main_v63 (F := Ideal) V0 : S8x4x2x4096x4096.Idx → EReal) (ix5 b h s t k) = Ideal.exp (logit V0 b h s t k - top V0 b h s t) := by
  unfold res_main_v63 top
  refine (exp_read (res_main_v56 V0) (Host.reduce (FloatOps.maximumf (F := Ideal) (φ := .f32)) (res_main_v56 V0) (constant S_ .f32 0xFF800000#32) reducesTo_S8x4x2x4096x4096_S8x4x2x4096_d4 h_S_) b h s t k).trans ?_
  have hw : (fun k : Fin 4096 => (res_main_v56 (F := Ideal) V0 : S8x4x2x4096x4096.Idx → EReal) (ix5 b h s t k)) = logit V0 b h s t := funext (logit_apply V0 b h s t)
  have hr := reduce_read (res_main_v56 V0) (constant S_ .f32 0xFF800000#32) b h s t
  rw [hw] at hr
  exact congrArg Ideal.exp (congrArg₂ (fun x y : EReal => x - max ⊥ y) (logit_apply V0 b h s t k) hr)

/-- One softmax map's mean of the values. -/
def mean (b : Fin 8) (h : Fin 4) (s : Fin 2) (t : Fin 4096) (e : Fin 128) : EReal :=
  ∑ k : Fin 4096, Ideal.div (Ideal.exp (logit V0 b h s t k - top V0 b h s t)) (∑ k : Fin 4096, Ideal.exp (logit V0 b h s t k - top V0 b h s t)) * argV V0 (ix4 b k h e)

theorem mean_apply (b : Fin 8) (h : Fin 4) (s : Fin 2) (t : Fin 4096) (e : Fin 128) :
    (res_main_v68 (F := Ideal) V0 : S8x4x2x4096x128.Idx → EReal) (ix5 b h s t e) = mean V0 b h s t e := by
  have hw := exp_apply V0 b h s t
  unfold res_main_v68
  generalize res_main_v63 (F := Ideal) V0 = w at hw ⊢
  pointwise
  simp only [hw]
  unfold mean
  with_reducible rfl

/-- The weight λ of the second map. -/
def lam : EReal :=
  Ideal.exp (∑ x : Fin 64, argL1 V0 (ix2 0 x) * argL2 V0 (ix2 0 x)) - Ideal.exp (∑ x : Fin 64, argL3 V0 (ix2 0 x) * argL4 V0 (ix2 0 x)) + Ideal.ofBits .f32 0x3E4CCCCD#32

theorem diff_read (w : FVec Ideal S8x4x2x4096x128 .f32) (l1 l2 l3 l4 : FVec Ideal S1x64 .f32) (b : Fin 8) (h : Fin 4) (t : Fin 4096) (e : Fin 128) :
    (subf (shapeCast _ (extractStridedSlice S8x4x1x4096x128 ![0, 0, 0, 0, 0] w slices_S8x4x2x4096x128_S8x4x1x4096x128_0_0_0_0_0) shapeCasts_S8x4x1x4096x128_S8x4x4096x128) (mulf (broadcastInDim S8x4x4096x128 ![] bcast_S_S8x4x4096x128 (addf (subf (Host.exp (Host.reduceAdd (mulf (shapeCast _ l1 shapeCasts_S1x64_S64) (shapeCast _ l2 shapeCasts_S1x64_S64)) (constant S_ .f32 0x00000000#32) reducesTo_S64_S_d0 h_S_)) (Host.exp (Host.reduceAdd (mulf (shapeCast _ l3 shapeCasts_S1x64_S64) (shapeCast _ l4 shapeCasts_S1x64_S64)) (constant S_ .f32 0x00000000#32) reducesTo_S64_S_d0 h_S_))) (constant S_ .f32 0x3E4CCCCD#32))) (shapeCast _ (extractStridedSlice S8x4x1x4096x128 ![0, 0, 1, 0, 0] w slices_S8x4x2x4096x128_S8x4x1x4096x128_0_0_1_0_0) shapeCasts_S8x4x1x4096x128_S8x4x4096x128)) : S8x4x4096x128.Idx → EReal) (ix4 b h t e)
      = w (ix5 b h 0 t e) - (Ideal.exp (∑ x : Fin 64, l1 (ix2 0 x) * l2 (ix2 0 x)) - Ideal.exp (∑ x : Fin 64, l3 (ix2 0 x) * l4 (ix2 0 x)) + Ideal.ofBits .f32 0x3E4CCCCD#32) * w (ix5 b h 1 t e) := by
  pointwise

/-- The difference of the two maps' means. -/
theorem diff_apply (b : Fin 8) (h : Fin 4) (t : Fin 4096) (e : Fin 128) :
    (res_main_v75 (F := Ideal) V0 : S8x4x4096x128.Idx → EReal) (ix4 b h t e) = mean V0 b h 0 t e - lam V0 * mean V0 b h 1 t e := by
  unfold res_main_v75 lam
  refine (diff_read (res_main_v68 V0) _ _ _ _ b h t e).trans ?_
  rw [mean_apply, mean_apply]

/-- The norm of a row `d`, with gain `g`, at entry `e`. -/
def subln (d : Fin 128 → EReal) (g : EReal) (e : Fin 128) : EReal :=
  d e * Ideal.rsqrt (Ideal.div (∑ k : Fin 128, d k * d k) (Ideal.ofBits .f32 0x43000000#32) + Ideal.ofBits .f32 0x358637BD#32) * g * Ideal.ofBits .f32 0x3F4CCCCD#32

theorem out_read (w : FVec Ideal S8x4x4096x128 .f32) (g : FVec Ideal S1x128 .f32) (y : Fin 32768) (x : Fin 512) :
    (truncf .bf16 (shapeCast _ (shapeCast _ (transpose S8x4096x4x128 [0, 2, 1, 3] (mulf (mulf (mulf w (broadcastInDim S8x4x4096x128 ![0, 1, 2, 3] bcast_S8x4x4096x1_S8x4x4096x128_0_1_2_3 (Host.rsqrt (addf (Host.divf (broadcastInDim S8x4x4096x1 ![0, 1, 2] bcast_S8x4x4096_S8x4x4096x1_0_1_2 (Host.reduceAdd (mulf w w) (constant S_ .f32 0x00000000#32) reducesTo_S8x4x4096x128_S8x4x4096_d3 h_S_)) (broadcastInDim S8x4x4096x1 ![] bcast_S_S8x4x4096x1 (constant S_ .f32 0x43000000#32))) (broadcastInDim S8x4x4096x1 ![] bcast_S_S8x4x4096x1 (constant S_ .f32 0x358637BD#32)))))) (broadcastInDim S8x4x4096x128 ![0, 1, 2, 3] bcast_S1x1x1x128_S8x4x4096x128_0_1_2_3 (broadcastInDim S1x1x1x128 ![3] bcast_S128_S1x1x1x128_3 (shapeCast _ g shapeCasts_S1x128_S128)))) (broadcastInDim S8x4x4096x128 ![] bcast_S_S8x4x4096x128 (constant S_ .f32 0x3F4CCCCD#32))) transposes_S8x4x4096x128_S8x4096x4x128_0_2_1_3) shapeCasts_S8x4096x4x128_S8x4096x512) shapeCasts_S8x4096x512_S32768x512) bitsLt_bf16_f32 : S32768x512.Idx → EReal) (ix2 y x)
      = subln (fun e => w (ix4 (⟨y.val / 4096, by omega⟩ : Fin 8) (⟨x.val / 128, by omega⟩ : Fin 4) (⟨y.val % 4096, by omega⟩ : Fin 4096) e)) (g (ix2 0 (⟨x.val % 128, by omega⟩ : Fin 128))) (⟨x.val % 128, by omega⟩ : Fin 128) := by
  unfold subln
  pointwise

/-- The reference's result. -/
theorem out_apply (y : Fin 32768) (x : Fin 512) :
    (val2 (F := Ideal) V0 (Proc.tc.devRef main_v95) : S32768x512.Idx → EReal) (ix2 y x)
      = subln (fun e => mean V0 (⟨y.val / 4096, by omega⟩ : Fin 8) (⟨x.val / 128, by omega⟩ : Fin 4) 0 (⟨y.val % 4096, by omega⟩ : Fin 4096) e
          - lam V0 * mean V0 (⟨y.val / 4096, by omega⟩ : Fin 8) (⟨x.val / 128, by omega⟩ : Fin 4) 1 (⟨y.val % 4096, by omega⟩ : Fin 4096) e)
          (argG V0 (ix2 0 (⟨x.val % 128, by omega⟩ : Fin 128))) (⟨x.val % 128, by omega⟩ : Fin 128) := by
  refine (congrFun (val2_main_v95 V0) (ix2 y x)).trans ((out_read (res_main_v75 V0) (V0 (Proc.tc.devRef main_arg8)) y x).trans ?_)
  exact congrArg (fun d : Fin 128 → EReal => subln d _ _) (funext fun e => diff_apply V0 _ _ _ e)
end Cert.ReferenceIdeal.Diff
-- ==== Proof.Match.lean ====
/- The scores that a grid point forms are the reference's logits, in base-two units. -/
module

public import proofs.«01_k».proof.Proof.Windows
public import proofs.«01_k».proof.Proof.Table
public import proofs.«01_k».proof.Proof.Ref
public import proofs.«01_k».proof.Proof.Softmax

@[expose] public section

set_option maxRecDepth 16384

noncomputable section

namespace Cert.KernelIdeal.Diff

open Cert.KernelIdeal Cert.KernelIdeal.Gen Idealize.ShloMosaic Idealize.ShloMosaic.TcCoe Idealize.SL.Sem

variable (m : (ℓ : Loc nD τ sig) → Buf (Elt Ideal) ℓ) (c : Dev nD)

theorem ix5_eq {n0 n1 n2 n3 n4 : ℕ} {a a' : Fin n0} {b b' : Fin n1} {d d' : Fin n2} {e e' : Fin n3} {f f' : Fin n4}
    (ha : a.val = a'.val) (hb : b.val = b'.val) (hd : d.val = d'.val) (he : e.val = e'.val) (hf : f.val = f'.val) : ix5 a b d e f = ix5 a' b' d' e' f' := by
  obtain rfl := Fin.ext ha; obtain rfl := Fin.ext hb; obtain rfl := Fin.ext hd; obtain rfl := Fin.ext he; obtain rfl := Fin.ext hf; rfl
theorem ix4_eq {n0 n1 n2 n3 : ℕ} {a a' : Fin n0} {b b' : Fin n1} {d d' : Fin n2} {e e' : Fin n3}
    (ha : a.val = a'.val) (hb : b.val = b'.val) (hd : d.val = d'.val) (he : e.val = e'.val) : ix4 a b d e = ix4 a' b' d' e' := by
  obtain rfl := Fin.ext ha; obtain rfl := Fin.ext hb; obtain rfl := Fin.ext hd; obtain rfl := Fin.ext he; rfl
theorem ix2_eq {n0 n1 : ℕ} {a a' : Fin n0} {b b' : Fin n1} (ha : a.val = a'.val) (hb : b.val = b'.val) : ix2 a b = ix2 a' b' := by
  obtain rfl := Fin.ext ha; obtain rfl := Fin.ext hb; rfl

/-- What a tile holds at distance `o + x − y`. -/
theorem tileBias_at (tab : Fin 32 → EReal) (o : ℕ) (ho : o ≤ 512) (x y : Fin 256) :
    tileBias tab (IntOp.subi (IntOp.addi (BitVec.ofNat 32 o) (BitVec.ofNat 32 x.val)) (BitVec.ofNat 32 y.val))
      = if y.val ≤ o + x.val then tab ⟨bktNat (o + x.val - y.val), bktNat_lt _⟩ else ⊥ := by
  have ha : IntOp.addi (BitVec.ofNat 32 o) (BitVec.ofNat 32 x.val) = BitVec.ofNat 32 (o + x.val) := by
    unfold IntOp.addi; rw [BitVec.ofNat_add]
  rw [ha]
  by_cases h : y.val ≤ o + x.val
  · rw [if_pos h, subi_small _ _ (by omega) h, tileBias_pos tab _ (by omega)]
  · rw [if_neg h, tileBias_neg tab _ (subi_neg _ _ (by omega) (by omega))]

/-- The bias of head map `n` at distance `d`, in the table. -/
def rowBias (n : Fin 8) (d : ℕ) : EReal := argB m c (ix2 (⟨bktNat d, bktNat_lt d⟩ : Fin 32) (⟨8 + n.val, by omega⟩ : Fin 16))

/-- The bias tiles' entries. -/
theorem V125_apply (a : Fin 3) (n : Fin 8) (y x : Fin 256) : (V (F := Ideal) m c main_v125 : S3x8x256x256.Idx → EReal) (ix4 a n y x)
    = if y.val ≤ 256 * a.val + x.val then rowBias m c n (256 * a.val + x.val - y.val) else ⊥ := by
  match a with
  | ⟨0, _⟩ => exact (V125_at0 m c n y x).trans (tileBias_at _ 0 (by omega) x y)
  | ⟨1, _⟩ => exact (V125_at1 m c n y x).trans (tileBias_at _ 256 (by omega) x y)
  | ⟨2, _⟩ => exact (V125_at2 m c n y x).trans (tileBias_at _ 512 (by omega) x y)

/-- The score of run `u`, key `j`, at grid point `t`. -/
theorem score_read (t : Fin cfg0.N) (h : Fin 4) (s : Fin 2) (r : Fin 256) (u : ℕ) (j : Fin 128) :
    kScore (iblk (F := Ideal) m c 1 t) (iblk (F := Ideal) m c 2 t) (iblk (F := Ideal) m c 4 t) (t.val % 16) (2 * h.val + s.val) r u j
      = (∑ x : Fin 64, argK m c (ix5 (⟨t.val / 16, by have := t_lt t; omega⟩ : Fin 8) (⟨(128 * u + j.val) % 4096, by omega⟩ : Fin 4096) h s x)
          * (argQ m c (ix5 (⟨t.val / 16, by have := t_lt t; omega⟩ : Fin 8) (⟨256 * (t.val % 16) + r.val, by omega⟩ : Fin 4096) h s x) * (((8 * Real.log 2)⁻¹ : ℝ) : EReal)))
        + (if 128 * (u % 2) + j.val ≤ 256 * min (t.val % 16 - u / 2) 2 + r.val
            then rowBias m c (⟨2 * h.val + s.val, by omega⟩ : Fin 8) (256 * min (t.val % 16 - u / 2) 2 + r.val - (128 * (u % 2) + j.val)) else ⊥) * (((Real.log 2)⁻¹ : ℝ) : EReal) := by
  have ht := t_lt t
  unfold kScore
  refine congrArg₂ (fun x y : EReal => x + y) (Finset.sum_congr rfl fun x _ => congrArg₂ (fun x y : EReal => x * y) ?_ (congrArg (fun y : EReal => y * _) ?_)) (congrArg (fun y : EReal => y * _) ?_)
  · unfold keySub
    refine (blk2 m c t _ _).trans ((V18_apply m c _ _).trans (congrArg (argK m c) (ix5_eq ?_ ?_ ?_ ?_ ?_)))
    all_goals first | rfl | (show _ = _; dsimp only; omega) | (simp; done) | (simp; omega)
  · refine (blk1 m c t _ _).trans ((V16_apply m c _ _).trans (congrArg (argQ m c) (ix5_eq ?_ ?_ ?_ ?_ ?_)))
    all_goals first | rfl | (show _ = _; dsimp only; omega) | (simp; done) | (simp; omega)
  · unfold biasSub
    refine (blk4 m c t _).trans ((V125_apply m c _ _ _ _).trans ?_)
    have e1 : (128 * (u % 2) + j.val) % 256 = 128 * (u % 2) + j.val := by omega
    have e2 : (2 * h.val + s.val) % 8 = 2 * h.val + s.val := by omega
    simp only [ix4_2, ix4_3, e1, e2]

theorem value_read (t : Fin cfg0.N) (h : Fin 4) (s : Fin 2) (u : ℕ) (hu : u < 32) (j : Fin 128) (e : Fin 128) :
    (valSub (F := Ideal) (iblk (F := Ideal) m c 3 t) (2 * h.val + s.val) u (ix3 0 e j) : EReal)
      = argV m c (ix4 (⟨t.val / 16, by have := t_lt t; omega⟩ : Fin 8) (⟨128 * u + j.val, by omega⟩ : Fin 4096) h e) := by
  have ht := t_lt t
  unfold valSub
  refine (blk3 m c t _ _ _).trans ((V21_apply m c _ _ _).trans (congrArg (argV m c) (ix4_eq ?_ ?_ ?_ ?_)))
  all_goals first | rfl | (show _ = _; dsimp only; omega) | (simp; done) | (simp; omega)

open ReferenceIdeal.Diff (logit row dist)

theorem eighth : Ideal.ofBits FTy.f32 0x3E000000#32 = ((1 / 8 : ℝ) : EReal) := by
  simp [Ideal.ofBits, Ideal.ieee, -EReal.coe_mul]; norm_num

variable (V0 : Valuation ReferenceIdeal.τ ReferenceIdeal.sig (Elt Ideal))

/-- The reference's logit of a key not after the query. -/
theorem logit_le (b : Fin 8) (h : Fin 4) (s : Fin 2) (T k : Fin 4096) (hk : k.val ≤ T.val) :
    logit V0 b h s T k = (∑ x : Fin 64, ReferenceIdeal.Diff.argQ V0 (ix5 b T h s x) * ReferenceIdeal.Diff.argK V0 (ix5 b k h s x)) * ((1 / 8 : ℝ) : EReal)
      + ReferenceIdeal.Diff.argB V0 (ix2 (⟨bktNat (T.val - k.val), bktNat_lt _⟩ : Fin 32) (⟨8 + (h.val * 2 + s.val), by omega⟩ : Fin 16)) := by
  have hd : dist T k = BitVec.ofNat 32 (T.val - k.val) := subi_small T.val k.val (by omega) hk
  have hr : row (BitVec.ofNat 32 (T.val - k.val)) = ⟨bktNat (T.val - k.val), bktNat_lt _⟩ := Fin.ext (row_eq _ (by omega))
  unfold logit
  rw [hd, sge_small _ (by omega), hr, eighth]
  rfl

/-- The reference's logit of a later key. -/
theorem logit_gt (b : Fin 8) (h : Fin 4) (s : Fin 2) (T k : Fin 4096) (hk : T.val < k.val) : logit V0 b h s T k = ⊥ := by
  unfold logit
  rw [sge_neg (dist T k) (subi_neg T.val k.val hk (by omega))]
  rfl

variable {m c V0} {Q K : S8x4096x4x2x64.Idx → ℝ} {B : Fin 32 → Fin 8 → ℝ}

/-- A logit of real arguments, for a key not after the query, as a real. -/
def realLogit (Q K : S8x4096x4x2x64.Idx → ℝ) (B : Fin 32 → Fin 8 → ℝ) (b : Fin 8) (h : Fin 4) (s : Fin 2) (T k : Fin 4096) : ℝ :=
  (∑ x : Fin 64, Q (ix5 b T h s x) * K (ix5 b k h s x)) * (1 / 8) + B ⟨bktNat (T.val - k.val), bktNat_lt _⟩ ⟨2 * h.val + s.val, by omega⟩

theorem logit_real (eQ : ReferenceIdeal.Diff.argQ V0 = argQ m c) (eK : ReferenceIdeal.Diff.argK V0 = argK m c) (eB : ReferenceIdeal.Diff.argB V0 = argB m c)
    (hQ : ∀ i, argQ m c i = ((Q i : ℝ) : EReal)) (hK : ∀ i, argK m c i = ((K i : ℝ) : EReal))
    (hB : ∀ (k : Fin 32) (n : Fin 8), argB m c (ix2 k (⟨8 + n.val, by omega⟩ : Fin 16)) = ((B k n : ℝ) : EReal))
    (b : Fin 8) (h : Fin 4) (s : Fin 2) (T k : Fin 4096) (hk : k.val ≤ T.val) :
    logit V0 b h s T k = ((realLogit Q K B b h s T k : ℝ) : EReal) := by
  have e : (ix2 (⟨bktNat (T.val - k.val), bktNat_lt _⟩ : Fin 32) (⟨8 + (h.val * 2 + s.val), by omega⟩ : Fin 16))
      = ix2 (⟨bktNat (T.val - k.val), bktNat_lt _⟩ : Fin 32) (⟨8 + (⟨2 * h.val + s.val, by omega⟩ : Fin 8).val, by simp only; omega⟩ : Fin 16) :=
    ix2_eq rfl (by simp only; omega)
  rw [logit_le V0 b h s T k hk, eQ, eK, eB, e, hB]
  simp only [hQ, hK, ← EReal.coe_mul]
  rw [← coe_sum, ← EReal.coe_mul, ← EReal.coe_add]
  rfl

/-- The kernel's score is the reference's logit over the natural logarithm of two. -/
theorem score_eq_logit (eQ : ReferenceIdeal.Diff.argQ V0 = argQ m c) (eK : ReferenceIdeal.Diff.argK V0 = argK m c) (eB : ReferenceIdeal.Diff.argB V0 = argB m c)
    (hQ : ∀ i, argQ m c i = ((Q i : ℝ) : EReal)) (hK : ∀ i, argK m c i = ((K i : ℝ) : EReal))
    (hB : ∀ (k : Fin 32) (n : Fin 8), argB m c (ix2 k (⟨8 + n.val, by omega⟩ : Fin 16)) = ((B k n : ℝ) : EReal))
    (t : Fin cfg0.N) (h : Fin 4) (s : Fin 2) (r : Fin 256) (u : ℕ) (hu : u < 2 * (t.val % 16 + 1)) (j : Fin 128) :
    kScore (iblk (F := Ideal) m c 1 t) (iblk (F := Ideal) m c 2 t) (iblk (F := Ideal) m c 4 t) (t.val % 16) (2 * h.val + s.val) r u j
      = logit V0 (⟨t.val / 16, by have := t_lt t; omega⟩ : Fin 8) h s (⟨256 * (t.val % 16) + r.val, by omega⟩ : Fin 4096) (⟨128 * u + j.val, by omega⟩ : Fin 4096)
          * (((Real.log 2)⁻¹ : ℝ) : EReal) := by
  have ht := t_lt t
  have hl : (0 : ℝ) < (Real.log 2)⁻¹ := inv_pos.2 (Real.log_pos (by norm_num))
  have ek : (⟨(128 * u + j.val) % 4096, by omega⟩ : Fin 4096) = ⟨128 * u + j.val, by omega⟩ := Fin.ext (by simp only; omega)
  rw [score_read, ek]
  simp only [hQ, hK, ← EReal.coe_mul]
  rw [← coe_sum]
  by_cases hk : 128 * u + j.val ≤ 256 * (t.val % 16) + r.val
  · rw [if_pos (by omega)]
    rw [logit_real eQ eK eB hQ hK hB _ h s _ _ hk]
    have hb : bktNat (256 * min (t.val % 16 - u / 2) 2 + r.val - (128 * (u % 2) + j.val)) = bktNat (256 * (t.val % 16) + r.val - (128 * u + j.val)) := by
      by_cases h2 : t.val % 16 - u / 2 ≤ 2
      · congr 1; omega
      · rw [bktNat_far _ (by omega), bktNat_far _ (by omega)]
    unfold rowBias realLogit
    rw [hB, ← EReal.coe_mul, ← EReal.coe_add, ← EReal.coe_mul]
    congr 1
    simp only [hb, Finset.sum_mul, add_mul]
    congr 1
    refine Finset.sum_congr rfl fun x _ => ?_
    rw [mul_inv]
    ring
  · rw [if_neg (by omega), logit_gt V0 _ h s _ _ (by show 256 * (t.val % 16) + r.val < 128 * u + j.val; omega), EReal.bot_mul_coe_of_pos hl, EReal.add_bot]

/-- No score is plus infinity. -/
theorem score_ne_top (hQ : ∀ i, argQ m c i = ((Q i : ℝ) : EReal)) (hK : ∀ i, argK m c i = ((K i : ℝ) : EReal))
    (hB : ∀ (k : Fin 32) (n : Fin 8), argB m c (ix2 k (⟨8 + n.val, by omega⟩ : Fin 16)) = ((B k n : ℝ) : EReal))
    (t : Fin cfg0.N) (h : Fin 4) (s : Fin 2) (r : Fin 256) (u : ℕ) (j : Fin 128) :
    kScore (iblk (F := Ideal) m c 1 t) (iblk (F := Ideal) m c 2 t) (iblk (F := Ideal) m c 4 t) (t.val % 16) (2 * h.val + s.val) r u j ≠ ⊤ := by
  have hl : (0 : ℝ) < (Real.log 2)⁻¹ := inv_pos.2 (Real.log_pos (by norm_num))
  rw [score_read]
  simp only [hQ, hK, ← EReal.coe_mul]
  rw [← coe_sum]
  split
  · unfold rowBias
    rw [hB, ← EReal.coe_mul, ← EReal.coe_add]
    exact EReal.coe_ne_top _
  · rw [EReal.bot_mul_coe_of_pos hl, EReal.add_bot]
    exact bot_ne_top

/-- One head map's mean of the values: the kernel's and the reference's. -/
theorem mean_match (eQ : ReferenceIdeal.Diff.argQ V0 = argQ m c) (eK : ReferenceIdeal.Diff.argK V0 = argK m c) (eV : ReferenceIdeal.Diff.argV V0 = argV m c)
    (eB : ReferenceIdeal.Diff.argB V0 = argB m c)
    (hQ : ∀ i, argQ m c i = ((Q i : ℝ) : EReal)) (hK : ∀ i, argK m c i = ((K i : ℝ) : EReal))
    (hB : ∀ (k : Fin 32) (n : Fin 8), argB m c (ix2 k (⟨8 + n.val, by omega⟩ : Fin 16)) = ((B k n : ℝ) : EReal))
    (t : Fin cfg0.N) (h : Fin 4) (s : Fin 2) (r : Fin 256) (e : Fin 128) :
    kMean (iblk (F := Ideal) m c 1 t) (iblk (F := Ideal) m c 2 t) (iblk (F := Ideal) m c 3 t) (iblk (F := Ideal) m c 4 t) (t.val % 16) (2 * h.val + s.val) r e
      = ReferenceIdeal.Diff.mean V0 (⟨t.val / 16, by have := t_lt t; omega⟩ : Fin 8) h s (⟨256 * (t.val % 16) + r.val, by omega⟩ : Fin 4096) e := by
  have ht := t_lt t
  unfold kMean ReferenceIdeal.Diff.mean
  refine online_eq_softmax (logit V0 (⟨t.val / 16, by omega⟩ : Fin 8) h s (⟨256 * (t.val % 16) + r.val, by omega⟩ : Fin 4096))
    (fun k => ReferenceIdeal.Diff.argV V0 (ix4 (⟨t.val / 16, by omega⟩ : Fin 8) k h e)) (fun k => ?_) ?_ (2 * (t.val % 16) + 1) (by omega) (fun k hk => ?_) _ rfl
    _ _ (fun u j => score_ne_top hQ hK hB t h s r u j) (fun n hn j => score_eq_logit eQ eK eB hQ hK hB t h s r n (by omega) j)
    (fun n hn j => ?_)
  · by_cases hk : k.val ≤ 256 * (t.val % 16) + r.val
    · rw [logit_real eQ eK eB hQ hK hB _ h s _ k hk]; exact EReal.coe_ne_top _
    · rw [logit_gt V0 _ h s _ k (by show 256 * (t.val % 16) + r.val < k.val; omega)]; exact bot_ne_top
  · rw [logit_real eQ eK eB hQ hK hB _ h s _ 0 (Nat.zero_le _)]; exact EReal.coe_ne_bot _
  · exact logit_gt V0 _ h s _ k (by show 256 * (t.val % 16) + r.val < k.val; omega)
  · rw [eV]; exact value_read m c t h s n (by omega) j e

end Cert.KernelIdeal.Diff
-- ==== Proof.Final.lean ====
/- The kernel's output array is the reference's result. -/
module

public import proofs.«01_k».proof.Proof.Match
public import proofs.«01_k».proof.Proof.OutBlock

@[expose] public section

set_option maxRecDepth 16384

noncomputable section

namespace Cert.KernelIdeal.Diff

open Cert.KernelIdeal Cert.KernelIdeal.Gen Idealize.ShloMosaic Idealize.ShloMosaic.TcCoe Idealize.SL.Sem

variable {m : (ℓ : Loc nD τ sig) → Buf (Elt Ideal) ℓ} {c : Dev nD}
variable {V0 : Valuation ReferenceIdeal.τ ReferenceIdeal.sig (Elt Ideal)} {Q K : S8x4096x4x2x64.Idx → ℝ} {B : Fin 32 → Fin 8 → ℝ}

/-- The kernel's weight of the second map is the reference's. -/
theorem lam_match (e1 : ReferenceIdeal.Diff.argL1 V0 = argL1 m c) (e2 : ReferenceIdeal.Diff.argL2 V0 = argL2 m c)
    (e3 : ReferenceIdeal.Diff.argL3 V0 = argL3 m c) (e4 : ReferenceIdeal.Diff.argL4 V0 = argL4 m c) (t : Fin cfg0.N) :
    (iblk (F := Ideal) m c 0 t : S1.Idx → EReal) (ix1 0) = ReferenceIdeal.Diff.lam V0 := by
  rw [blk0, V13_apply]
  unfold ReferenceIdeal.Diff.lam
  rw [e1, e2, e3, e4]

/-- What a grid point leaves at one place of its output block. -/
theorem after_apply (t : Fin cfg0.N) (l g : EReal) (hl : (iblk (F := Ideal) m c 0 t : S1.Idx → EReal) (ix1 0) = l) (h : Fin 4) (r : Fin 256) (e : Fin 128)
    (hg : (iblk (F := Ideal) m c 5 t : S1x128.Idx → EReal) (ix2 0 e) = g) :
    ((dats (F := Ideal) m 0 c).after 6 t : S256x512.Idx → EReal) (ix2 r (⟨128 * h.val + e.val, by omega⟩ : Fin 512))
      = subln (fun e => kMean (iblk (F := Ideal) m c 1 t) (iblk (F := Ideal) m c 2 t) (iblk (F := Ideal) m c 3 t) (iblk (F := Ideal) m c 4 t) (t.val % 16) (2 * h.val) r e
          - l * kMean (iblk (F := Ideal) m c 1 t) (iblk (F := Ideal) m c 2 t) (iblk (F := Ideal) m c 3 t) (iblk (F := Ideal) m c 4 t) (t.val % 16) (2 * h.val + 1) r e)
          g e := by
  subst hl hg
  rw [← coords_block t]
  refine (congrFun (after0_6 m c t) _).trans ?_
  unfold outsAt0
  exact block_apply c (grid0.coords t) _ _ _ _ _ _ _ _ _ _ _ _ _ _ _ _ _ _ _ _ _ _ _ _ _ _ _ _ h r e

/-- One place of a grid point's output block is the reference's result at that place. -/
theorem block_match (eQ : ReferenceIdeal.Diff.argQ V0 = argQ m c) (eK : ReferenceIdeal.Diff.argK V0 = argK m c) (eV : ReferenceIdeal.Diff.argV V0 = argV m c)
    (eB : ReferenceIdeal.Diff.argB V0 = argB m c) (e1 : ReferenceIdeal.Diff.argL1 V0 = argL1 m c) (e2 : ReferenceIdeal.Diff.argL2 V0 = argL2 m c)
    (e3 : ReferenceIdeal.Diff.argL3 V0 = argL3 m c) (e4 : ReferenceIdeal.Diff.argL4 V0 = argL4 m c) (eG : ReferenceIdeal.Diff.argG V0 = argG m c)
    (hQ : ∀ i, argQ m c i = ((Q i : ℝ) : EReal)) (hK : ∀ i, argK m c i = ((K i : ℝ) : EReal))
    (hB : ∀ (k : Fin 32) (n : Fin 8), argB m c (ix2 k (⟨8 + n.val, by omega⟩ : Fin 16)) = ((B k n : ℝ) : EReal))
    (t : Fin cfg0.N) (h : Fin 4) (r : Fin 256) (e : Fin 128) :
    ((dats (F := Ideal) m 0 c).after 6 t : S256x512.Idx → EReal) (ix2 r (⟨128 * h.val + e.val, by omega⟩ : Fin 512))
      = (ReferenceIdeal.Value.val2 (F := Ideal) V0 (Proc.tc.devRef ReferenceIdeal.main_v95) : S32768x512.Idx → EReal)
          (ix2 (⟨256 * t.val + r.val, by have := t_lt t; omega⟩ : Fin 32768) (⟨128 * h.val + e.val, by omega⟩ : Fin 512)) := by
  have ht := t_lt t
  refine (after_apply t (ReferenceIdeal.Diff.lam V0) (argG m c (ix2 0 e)) (lam_match e1 e2 e3 e4 t) h r e ((blk5 m c t e).trans (V15_apply m c e))).trans (Eq.trans ?_ (ReferenceIdeal.Diff.out_apply V0 _ _).symm)
  have b0 : (⟨(256 * t.val + r.val) / 4096, by omega⟩ : Fin 8) = ⟨t.val / 16, by omega⟩ := Fin.ext (by simp only; omega)
  have b1 : (⟨(128 * h.val + e.val) / 128, by omega⟩ : Fin 4) = h := Fin.ext (by simp only; omega)
  have b2 : (⟨(256 * t.val + r.val) % 4096, by omega⟩ : Fin 4096) = ⟨256 * (t.val % 16) + r.val, by omega⟩ := Fin.ext (by simp only; omega)
  have b3 : (⟨(128 * h.val + e.val) % 128, by omega⟩ : Fin 128) = e := Fin.ext (by simp only; omega)
  simp only [b0, b1, b2, b3]
  have m0 := fun e => mean_match eQ eK eV eB hQ hK hB t h 0 r e
  have m1 := fun e => mean_match eQ eK eV eB hQ hK hB t h 1 r e
  simp only [Fin.val_zero, Fin.val_one, Nat.add_zero] at m0 m1
  simp only [m0, m1, eG]
  rfl

/-- The output array after the run is the reference's result. -/
theorem array_match (eQ : ReferenceIdeal.Diff.argQ V0 = argQ m c) (eK : ReferenceIdeal.Diff.argK V0 = argK m c) (eV : ReferenceIdeal.Diff.argV V0 = argV m c)
    (eB : ReferenceIdeal.Diff.argB V0 = argB m c) (e1 : ReferenceIdeal.Diff.argL1 V0 = argL1 m c) (e2 : ReferenceIdeal.Diff.argL2 V0 = argL2 m c)
    (e3 : ReferenceIdeal.Diff.argL3 V0 = argL3 m c) (e4 : ReferenceIdeal.Diff.argL4 V0 = argL4 m c) (eG : ReferenceIdeal.Diff.argG V0 = argG m c)
    (hQ : ∀ i, argQ m c i = ((Q i : ℝ) : EReal)) (hK : ∀ i, argK m c i = ((K i : ℝ) : EReal))
    (hB : ∀ (k : Fin 32) (n : Fin 8), argB m c (ix2 k (⟨8 + n.val, by omega⟩ : Fin 16)) = ((B k n : ℝ) : EReal)) :
    ((dats (F := Ideal) m 0 c).arrAt 6 cfg0.N : S32768x512.Idx → EReal)
      = (ReferenceIdeal.Value.val2 (F := Ideal) V0 (Proc.tc.devRef ReferenceIdeal.main_v95) : S32768x512.Idx → EReal) := by
  refine (dats (F := Ideal) m 0 c).arrAt_eq_of_covers 6 (ReferenceIdeal.Value.val2 (F := Ideal) V0 (Proc.tc.devRef ReferenceIdeal.main_v95) : S32768x512.Idx → EReal) (by decide +kernel) fun t hf y => ?_
  have ht := t_lt t
  have hy0 : (y 0 : ℕ) < 256 := (y 0).isLt
  have hy1 : (y 1 : ℕ) < 512 := (y 1).isLt
  have ey : (y : S256x512.Idx) = ix2 (⟨(y 0 : ℕ), hy0⟩ : Fin 256) (⟨128 * ((y 1 : ℕ) / 128) + (y 1 : ℕ) % 128, by omega⟩ : Fin 512) := by
    funext a
    refine Fin.ext ?_
    fin_cases a
    · rfl
    · show (y 1 : ℕ) = 128 * ((y 1 : ℕ) / 128) + (y 1 : ℕ) % 128; omega
  have key := block_match eQ eK eV eB e1 e2 e3 e4 eG hQ hK hB t (⟨(y 1 : ℕ) / 128, by omega⟩ : Fin 4) (⟨(y 0 : ℕ), hy0⟩ : Fin 256) (⟨(y 1 : ℕ) % 128, by omega⟩ : Fin 128)
  have left : ((dats (F := Ideal) m 0 c).after 6 t : S256x512.Idx → EReal) y = _ := (congrArg ((dats (F := Ideal) m 0 c).after 6 t : S256x512.Idx → EReal) ey).trans key
  blk_simp
  refine left.trans (congrArg (ReferenceIdeal.Value.val2 (F := Ideal) V0 (Proc.tc.devRef ReferenceIdeal.main_v95) : S32768x512.Idx → EReal) (funext fun a => Fin.ext ?_))
  fin_cases a
  · blk_simp [index6]
    show 256 * t.val + (y 0 : ℕ) = t.val * 256 + (y 0 : ℕ)
    omega
  · blk_simp [index6]
    show 128 * ((y 1 : ℕ) / 128) + (y 1 : ℕ) % 128 = (y 1 : ℕ)
    omega

end Cert.KernelIdeal.Diff
-- ==== Proof.PreFacts.lean ====
/- The precondition: its side conditions hold, and it says that queries, keys and the bias columns in use are real. -/
module

public import proofs.«01_k».proof.Pre_finite_logits
public import Idealize.ShloMosaic.Lib.Affine
public import Idealize.ShloMosaic.Lib.ReduceAll
public import Idealize.ShloMosaic.Lib.ValueIdx
public import Idealize.ShloMosaic.PureOps

@[expose] public section

set_option maxRecDepth 16384

noncomputable section

namespace Cert.Pre_finite_logits.Diff

open Cert.Pre_finite_logits Idealize.ShloMosaic.ValueIdx Idealize.ShloMosaic

/-- The precondition's side conditions. -/
instance facts : Cert.Pre_finite_logits.Facts where
  bcast_S_S8x4096x4x2x64 := by decide
  reducesTo_S8x4096x4x2x64_S_d0_1_2_3_4 := by decide
  h_S_ := by decide
  slices_S32x16_S32x8_0_8 := by decide
  bcast_S_S32x8 := by decide
  reducesTo_S32x8_S_d0_1 := by decide

instance : Subsingleton S_.Idx := ⟨fun a b => funext fun i => i.elim0⟩

/-- A number whose size is below plus infinity is real. -/
theorem real_of_cmpf (x : EReal) (h : FloatOps.cmpf (F := Ideal) (φ := .f32) .olt (max x (-x) : EReal) (Ideal.ofBits .f32 0x7F800000#32) = 1#1) : x = ((x.toReal : ℝ) : EReal) := by
  have ht : Ideal.ofBits .f32 0x7F800000#32 = (⊤ : EReal) := rfl
  rw [ht] at h
  induction x with
  | bot => simp [FloatOps.cmpf, Ideal.cmp] at h
  | top => simp [FloatOps.cmpf, Ideal.cmp] at h
  | coe r => rfl

theorem andi_one (a b : BitVec 1) (h : IntOp.andi a b = 1#1) : a = 1#1 ∧ b = 1#1 := by
  revert a b; decide

/-- What the precondition says. -/
theorem decode (q k : FVec Ideal S8x4096x4x2x64 .f32) (v : FVec Ideal S8x4096x4x128 .f32) (b : FVec Ideal S32x16 .f32) (l1 l2 l3 l4 : FVec Ideal S1x64 .f32) (g : FVec Ideal S1x128 .f32)
    (h : Cert.Pre_finite_logits.fn (F := Ideal) q k v b l1 l2 l3 l4 g = fun _ => 1#1) :
    (∀ i, (q i : EReal) = ((q i).toReal : ℝ)) ∧ (∀ i, (k i : EReal) = ((k i).toReal : ℝ))
      ∧ ∀ (r : Fin 32) (n : Fin 8), (b (ix2 r (⟨8 + n.val, by omega⟩ : Fin 16)) : EReal) = ((b (ix2 r (⟨8 + n.val, by omega⟩ : Fin 16))).toReal : ℝ) := by
  have h0 := congrFun h (fun a => a.elim0)
  dsimp only [fn] at h0
  obtain ⟨h1, hb⟩ := andi_one _ _ h0
  obtain ⟨hq, hk⟩ := andi_one _ _ h1
  refine ⟨fun i => ?_, fun i => ?_, fun r n => ?_⟩
  · exact real_of_cmpf _ (Host.reduce_andi_all _ _ _ _ _ hq i)
  · exact real_of_cmpf _ (Host.reduce_andi_all _ _ _ _ _ hk i)
  · have hx := real_of_cmpf _ (Host.reduce_andi_all _ _ _ _ _ hb (ix2 r n))
    have e : extractStridedSlice S32x8 ![0, 8] b Facts.slices_S32x16_S32x8_0_8 (ix2 r n) = b (ix2 r (⟨8 + n.val, by omega⟩ : Fin 16)) := by
      refine congrArg b (funext fun a => Fin.ext ?_)
      fin_cases a
      · exact Nat.zero_add _
      · rfl
    rw [e] at hx
    exact hx

end Cert.Pre_finite_logits.Diff
-- ==== Proof.Algebra.lean ====
/- The value claim: at the ideal instance the kernel's program and the reference end with one result. -/
module

public import proofs.«01_k».proof.Defs
public import proofs.«01_k».proof.Proof.Final
public import proofs.«01_k».proof.Proof.PreFacts
public import proofs.«01_k».proof.Proof.Gen.KernelIdeal.Value
public import proofs.«01_k».proof.Proof.Gen.ReferenceIdeal.Run

@[expose] public section

set_option maxRecDepth 16384

noncomputable section

namespace Cert.Proof

open Idealize.ShloMosaic Idealize.ShloMosaic.TcCoe Idealize.SL.Sem

/-- The kernel's result on each device is the reference's, where the arguments agree and the logits' operands are real. -/
theorem result_match (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_finite_logits m)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    ((Cert.KernelIdeal.Gen.dats (F := Ideal) m 0 c).arrAt 6 Cert.KernelIdeal.cfg0.N : Cert.KernelIdeal.S32768x512.Idx → EReal)
      = (Cert.ReferenceIdeal.Value.val2 (F := Ideal) (StableHlo.launchContents m' c) (Proc.tc.devRef Cert.ReferenceIdeal.main_v95) : Cert.KernelIdeal.S32768x512.Idx → EReal) := by
  obtain ⟨a0, a1, a2, a3, a4, a5, a6, a7, a8⟩ := hagree
  obtain ⟨hQ, hK, hB⟩ := Cert.Pre_finite_logits.Diff.decode _ _ _ _ _ _ _ _ _ (hpre c)
  exact Cert.KernelIdeal.Diff.array_match (V0 := StableHlo.launchContents m' c) a0 a1 a2 a3 a4 a5 a6 a7 a8 hQ hK hB

/-- The value claim. -/
theorem algebraic : Cert.algebraic_KernelIdeal_ReferenceIdeal_pre_finite_logits := by
  intro m g m' g' hpre hagree
  refine ⟨fun c => (Cert.KernelIdeal.Gen.dats (F := Ideal) m 0 c).arrAt 6 Cert.KernelIdeal.cfg0.N, Cert.KernelIdeal.Value.run_blocks (F := Ideal) m g, ?_⟩
  refine (θ_run Cert.ReferenceIdeal.defs _ _).mono (fun r h c => ⟨?_, (h c).2⟩) (Cert.ReferenceIdeal.Value.run (F := Ideal) m' g')
  refine (h c).1.trans ((Cert.ReferenceIdeal.Value.val2_main_v95 (F := Ideal) (StableHlo.launchContents m' c)).symm.trans ?_)
  exact (result_match m m' c hpre (hagree c)).symm

end Cert.Proof
-- ==== Proof.ProjBlock.lean ====
/- The projection's block: what a grid point of the second call computes, entry by entry, from its input blocks. -/
module

public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.Kernel2Ideal.Proj

open Cert.Kernel2Ideal Cert.Kernel2Ideal.Gen Idealize.ShloMosaic Idealize.ShloMosaic.TcCoe Idealize.SL.Sem

/-- The norm of a row `x` with gain `g`, at entry `k`. -/
def normed (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The norm of a row times a column of weights. -/
def dotted (x g w : Fin 1024 → EReal) : EReal := ∑ k : Fin 1024, normed x g k * w k

theorem pay3_apply (v0 : Vec Ideal S512x1024 .f32) (v2 : Vec Ideal S1x1024 .f32) (r : Fin 512) (k : Fin 1024) :
    (k0_pay3 v0 v2 : S512x1024.Idx → EReal) (ix2 r k) = normed (fun k => v0 (ix2 r k)) (fun k => v2 (ix2 0 k)) k := by
  unfold k0_pay3 normed
  pointwise

theorem pay5_apply (v0 : Vec Ideal S512x1024 .f32) (v2 : Vec Ideal S1x1024 .f32) (w : Vec Ideal S1024x1024 .bf16) (r : Fin 512) (j : Fin 1024) :
    (k0_pay5 v0 v2 w : S512x1024.Idx → EReal) (ix2 r j) = ∑ k : Fin 1024, (k0_pay3 v0 v2 : S512x1024.Idx → EReal) (ix2 r k) * w (ix2 k j) := by
  unfold k0_pay5
  pointwise

theorem pay16_apply (h : Vec Ideal S512x1024 .bf16) (w : Vec Ideal S1024x512 .bf16) (r : Fin 512) (j : Fin 512) :
    (k0_pay16 h w : S512x512.Idx → EReal) (ix2 r j) = ∑ k : Fin 1024, h (ix2 r k) * w (ix2 k j) := by
  unfold k0_pay16
  pointwise

theorem pay18_apply (h : Vec Ideal S512x1024 .bf16) (w : Vec Ideal S1024x512 .bf16) (r : Fin 512) (j : Fin 512) :
    (k0_pay18 h w : S512x512.Idx → EReal) (ix2 r j) = ∑ k : Fin 1024, h (ix2 r k) * w (ix2 k j) := by
  unfold k0_pay18
  pointwise

theorem pay4_apply (v0 : Vec Ideal S512x1024 .f32) (v2 : Vec Ideal S1x1024 .f32) (w : Vec Ideal S1024x512 .bf16) (r : Fin 512) (j : Fin 512) :
    (k0_pay4 v0 v2 w : S512x512.Idx → EReal) (ix2 r j) = (∑ k : Fin 1024, (k0_pay3 v0 v2 : S512x1024.Idx → EReal) (ix2 r k) * w (ix2 k j)) * (((8 * (Real.log 2))⁻¹ : ℝ) : EReal) := by
  unfold k0_pay4
  pointwise
  rfl

theorem pay15_apply (h : Vec Ideal S512x1024 .bf16) (w : Vec Ideal S1024x512 .bf16) (r : Fin 512) (j : Fin 512) :
    (k0_pay15 h w : S512x512.Idx → EReal) (ix2 r j) = (∑ k : Fin 1024, h (ix2 r k) * w (ix2 k j)) * (((8 * (Real.log 2))⁻¹ : ℝ) : EReal) := by
  unfold k0_pay15
  pointwise
  rfl

theorem pay11_apply (h : Vec Ideal S512x1024 .bf16) (w : Vec Ideal S1024x512 .bf16) (r : Fin 512) (j : Fin 512) :
    (k0_pay11 h w : S512x512.Idx → EReal) (ix2 r j) = (∑ k : Fin 1024, h (ix2 r k) * w (ix2 k j)) * Ideal.ofBits .f32 0x3E000000#32 := by
  unfold k0_pay11
  pointwise

theorem pay14_apply (h : Vec Ideal S512x1024 .bf16) (w : Vec Ideal S1024x128 .bf16) (r : Fin 512) (j : Fin 128) :
    (k0_pay14 h w : S512x128.Idx → EReal) (ix2 r j) = (∑ k : Fin 1024, h (ix2 r k) * w (ix2 k j)) * Ideal.ofBits .f32 0x3EB504F3#32 := by
  unfold k0_pay14
  pointwise

theorem pay12_apply (h : Vec Ideal S512x1024 .bf16) (w : Vec Ideal S1024x128 .bf16) (g : Vec Ideal S1x128 .f32) (r : Fin 512) (j : Fin 128) :
    (k0_pay12 h w g : S512x128.Idx → EReal) (ix2 r j)
      = (∑ k : Fin 1024, h (ix2 r k) * w (ix2 k j))
        * Ideal.rsqrt (Ideal.div (∑ i : Fin 128, (∑ k : Fin 1024, h (ix2 r k) * w (ix2 k i)) * (∑ k : Fin 1024, h (ix2 r k) * w (ix2 k i))) (Ideal.ofBits .f32 0x43000000#32)
            + Ideal.ofBits .f32 0x358637BD#32) * g (ix2 0 j) := by
  unfold k0_pay12
  pointwise

variable (x0 : Vec Ideal S512x1024 .f32) (x1 : Vec Ideal S1x1024 .f32) (x2 : Vec Ideal S1024x3840 .bf16) (x3 : Vec Ideal S1x128 .f32)

/-- A normed row of the block times a column of the packed weights. -/
abbrev entry (r : Fin 512) (j : Fin 3840) : EReal := dotted (fun k => x0 (ix2 r k)) (fun k => x1 (ix2 0 k)) (fun k => x2 (ix2 k j))

theorem pay20_apply (r : Fin 512) (k : Fin 1024) :
    (k0_pay20 x0 x1 x2 x3 : S512x1024.Idx → EReal) (ix2 r k) = normed (fun k => x0 (ix2 r k)) (fun k => x1 (ix2 0 k)) k := by
  unfold k0_pay20
  rw [View.ld_unit_zero, View.ld_unit_zero]
  · exact pay3_apply _ _ r k
  all_goals exact funext fun a => by match a with | ⟨0, _⟩ => rfl | ⟨1, _⟩ => rfl

theorem ld_cols {n : Nat} (o : Nat) (h) (hn : o + n ≤ 3840) (k : Fin 1024) (j : Fin n) :
    View.ld x2 (Rect.unit (s := S1024x3840) ![0, o] ![1024, n] h) (ix2 k j) = x2 (ix2 k ⟨o + j.val, by omega⟩) := by
  refine congrArg x2 (funext fun a => Fin.ext ?_)
  match a with
  | ⟨0, _⟩ => show 0 + 1 * k.val = k.val; omega
  | ⟨1, _⟩ => show o + 1 * j.val = o + j.val; omega

theorem out5_apply (r : Fin 512) (j : Fin 1024) :
    (out0_5 x0 x1 x2 x3 : S512x1024.Idx → EReal) (ix2 r j) = entry x0 x1 x2 r ⟨512 + j.val, by omega⟩ := by
  frame_out
  exact (pay5_apply _ _ _ r j).trans (Finset.sum_congr rfl fun k _ => congrArg₂ (· * ·) (pay3_apply _ _ r k) (ld_cols x2 512 _ (by omega) k j))

theorem out13_apply (r : Fin 512) (j : Fin 512) :
    (out0_13 x0 x1 x2 x3 : S512x512.Idx → EReal) (ix2 r j) = entry x0 x1 x2 r ⟨2816 + j.val, by omega⟩ := by
  frame_out
  exact (pay16_apply _ _ r j).trans (Finset.sum_congr rfl fun k _ => congrArg₂ (· * ·) (pay20_apply x0 x1 x2 x3 r k) (ld_cols x2 2816 _ (by omega) k j))

theorem out14_apply (r : Fin 512) (j : Fin 512) :
    (out0_14 x0 x1 x2 x3 : S512x512.Idx → EReal) (ix2 r j) = entry x0 x1 x2 r ⟨3328 + j.val, by omega⟩ := by
  frame_out
  exact (pay18_apply _ _ r j).trans (Finset.sum_congr rfl fun k _ => congrArg₂ (· * ·) (pay20_apply x0 x1 x2 x3 r k) (ld_cols x2 3328 _ (by omega) k j))

theorem out4_apply (r : Fin 512) (j : Fin 512) :
    (out0_4 x0 x1 x2 x3 : S512x512.Idx → EReal) (ix2 r j) = entry x0 x1 x2 r ⟨0 + j.val, by omega⟩ * (((8 * (Real.log 2))⁻¹ : ℝ) : EReal) := by
  frame_out
  exact (pay4_apply _ _ _ r j).trans (congrArg (· * _) (Finset.sum_congr rfl fun k _ => congrArg₂ (· * ·) (pay3_apply _ _ r k) (ld_cols x2 0 _ (by omega) k j)))

theorem out12_apply (r : Fin 512) (j : Fin 512) :
    (out0_12 x0 x1 x2 x3 : S512x512.Idx → EReal) (ix2 r j) = entry x0 x1 x2 r ⟨2304 + j.val, by omega⟩ * (((8 * (Real.log 2))⁻¹ : ℝ) : EReal) := by
  frame_out
  exact (pay15_apply _ _ r j).trans (congrArg (· * _) (Finset.sum_congr rfl fun k _ => congrArg₂ (· * ·) (pay20_apply x0 x1 x2 x3 r k) (ld_cols x2 2304 _ (by omega) k j)))

theorem out8_apply (r : Fin 512) (j : Fin 512) :
    (out0_8 x0 x1 x2 x3 : S512x512.Idx → EReal) (ix2 r j) = entry x0 x1 x2 r ⟨1536 + j.val, by omega⟩ * Ideal.ofBits .f32 0x3E000000#32 := by
  frame_out
  exact (pay11_apply _ _ r j).trans (congrArg (· * _) (Finset.sum_congr rfl fun k _ => congrArg₂ (· * ·) (pay20_apply x0 x1 x2 x3 r k) (ld_cols x2 1536 _ (by omega) k j)))

theorem out11_apply (r : Fin 512) (j : Fin 128) :
    (out0_11 x0 x1 x2 x3 : S512x128.Idx → EReal) (ix2 r j) = entry x0 x1 x2 r ⟨2176 + j.val, by omega⟩ * Ideal.ofBits .f32 0x3EB504F3#32 := by
  frame_out
  exact (pay14_apply _ _ r j).trans (congrArg (· * _) (Finset.sum_congr rfl fun k _ => congrArg₂ (· * ·) (pay20_apply x0 x1 x2 x3 r k) (ld_cols x2 2176 _ (by omega) k j)))

theorem out9_apply (r : Fin 512) (j : Fin 128) :
    (out0_9 x0 x1 x2 x3 : S512x128.Idx → EReal) (ix2 r j)
      = entry x0 x1 x2 r ⟨2048 + j.val, by omega⟩
        * Ideal.rsqrt (Ideal.div (∑ i : Fin 128, entry x0 x1 x2 r ⟨2048 + i.val, by omega⟩ * entry x0 x1 x2 r ⟨2048 + i.val, by omega⟩) (Ideal.ofBits .f32 0x43000000#32)
            + Ideal.ofBits .f32 0x358637BD#32) * x3 (ix2 0 j) := by
  frame_out
  have he : ∀ i : Fin 128, (∑ k : Fin 1024, (k0_pay20 x0 x1 x2 x3 : S512x1024.Idx → EReal) (ix2 r k) * View.ld x2 r0_8 (ix2 k i))
      = entry x0 x1 x2 r ⟨2048 + i.val, by omega⟩ := fun i =>
    Finset.sum_congr rfl fun k _ => congrArg₂ (· * ·) (pay20_apply x0 x1 x2 x3 r k) (ld_cols x2 2048 _ (by omega) k i)
  refine (pay12_apply _ _ _ r j).trans ?_
  simp only [← he]

end Cert.Kernel2Ideal.Proj
-- ==== Proof.ProjHost.lean ====
/- The arrays that the projection's host prepares, and the blocks that a grid point reads, each entry read back to the arguments. -/
module

public import proofs.«01_k».proof.Proof.ProjBlock
public import proofs.«01_k».proof.Proof.Gen.Kernel2Ideal.Value
public import Idealize.ShloMosaic.Lib.Claim
public import Idealize.ShloMosaic.Lib.StableHlo.ReadAt
public import Idealize.ShloMosaic.Lib.Pipeline.ValueKit

@[expose] public section

set_option maxRecDepth 16384

noncomputable section

namespace Cert.Kernel2Ideal.Proj

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The layer's input, as the memory holds it. -/
abbrev argX : S8x4096x1024.Idx → EReal := m (c, Proc.tc.devRef main_arg0)
/-- The norm's gain, as the memory holds it. -/
abbrev argG : S1x1024.Idx → EReal := m (c, Proc.tc.devRef main_arg1)
/-- The weights, as the memory holds them. -/
abbrev argW : S1x1024x3656.Idx → EReal := m (c, Proc.tc.devRef main_arg2)
/-- The index key's gain, as the memory holds it. -/
abbrev argK : S1x64.Idx → EReal := m (c, Proc.tc.devRef main_arg3)

theorem V19_apply (y : Fin 32768) (k : Fin 1024) : (V (F := Ideal) m c main_v19 : S32768x1024.Idx → EReal) (ix2 y k)
    = argX m c (ix3 (⟨y.val / 4096, by omega⟩ : Fin 8) (⟨y.val % 4096, by omega⟩ : Fin 4096) k) := by
  unfold V
  after_reads_at

theorem V18_apply (k : Fin 1024) : (V (F := Ideal) m c main_v18 : S1x1024.Idx → EReal) (ix2 0 k) = argG m c (ix2 0 k) := by
  unfold V
  after_reads_at

theorem V16_lo (k : Fin 64) : (V (F := Ideal) m c main_v16 : S1x128.Idx → EReal) (ix2 0 (⟨k.val, by omega⟩ : Fin 128)) = argK m c (ix2 0 k) := by
  unfold V
  after_reads_at
  after_reads_at

theorem V16_hi (k : Fin 64) : (V (F := Ideal) m c main_v16 : S1x128.Idx → EReal) (ix2 0 (⟨64 + k.val, by omega⟩ : Fin 128)) = argK m c (ix2 0 k) := by
  unfold V
  after_reads_at
  after_reads_at

theorem V12_qa (k : Fin 1024) (j : Fin 512) : (V (F := Ideal) m c main_v12 : S1024x3840.Idx → EReal) (ix2 k (⟨0 + j.val, by omega⟩ : Fin 3840))
    = argW m c (ix3 0 k (⟨0 + j.val, by omega⟩ : Fin 3656)) := by
  unfold V
  after_reads_at
  after_reads_at

theorem V12_kv0 (k : Fin 1024) (j : Fin 512) : (V (F := Ideal) m c main_v12 : S1024x3840.Idx → EReal) (ix2 k (⟨512 + j.val, by omega⟩ : Fin 3840))
    = argW m c (ix3 0 k (⟨512 + j.val, by omega⟩ : Fin 3656)) := by
  unfold V
  after_reads_at
  after_reads_at

theorem V12_kv1 (k : Fin 1024) (j : Fin 512) : (V (F := Ideal) m c main_v12 : S1024x3840.Idx → EReal) (ix2 k (⟨1024 + j.val, by omega⟩ : Fin 3840))
    = argW m c (ix3 0 k (⟨1024 + j.val, by omega⟩ : Fin 3656)) := by
  unfold V
  after_reads_at
  refine (dif_neg (by omega)).trans ?_
  refine (dif_neg (by omega)).trans ?_
  refine (dif_pos (by omega)).trans ?_
  after_reads_at
  exact congrArg (argW m c) (congrArg (ix3 0 k) (Fin.ext (by dsimp only; omega)))

theorem V12_qi (k : Fin 1024) (j : Fin 512) : (V (F := Ideal) m c main_v12 : S1024x3840.Idx → EReal) (ix2 k (⟨1536 + j.val, by omega⟩ : Fin 3840))
    = argW m c (ix3 0 k (⟨1536 + j.val, by omega⟩ : Fin 3656)) := by
  unfold V
  after_reads_at
  refine (dif_neg (by omega)).trans ?_
  refine (dif_neg (by omega)).trans ?_
  refine (dif_neg (by omega)).trans ?_
  refine (dif_pos (by omega)).trans ?_
  after_reads_at
  exact congrArg (argW m c) (congrArg (ix3 0 k) (Fin.ext (by dsimp only; omega)))

theorem V12_ki0 (k : Fin 1024) (j : Fin 64) : (V (F := Ideal) m c main_v12 : S1024x3840.Idx → EReal) (ix2 k (⟨2048 + j.val, by omega⟩ : Fin 3840))
    = argW m c (ix3 0 k (⟨2048 + j.val, by omega⟩ : Fin 3656)) := by
  unfold V
  after_reads_at
  refine (dif_neg (by omega)).trans ?_
  refine (dif_neg (by omega)).trans ?_
  refine (dif_neg (by omega)).trans ?_
  refine (dif_neg (by omega)).trans ?_
  refine (dif_pos (by omega)).trans ?_
  after_reads_at
  exact congrArg (argW m c) (congrArg (ix3 0 k) (Fin.ext (by dsimp only; omega)))

theorem V12_ki1 (k : Fin 1024) (j : Fin 64) : (V (F := Ideal) m c main_v12 : S1024x3840.Idx → EReal) (ix2 k (⟨2112 + j.val, by omega⟩ : Fin 3840))
    = argW m c (ix3 0 k (⟨2048 + j.val, by omega⟩ : Fin 3656)) := by
  unfold V
  after_reads_at
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  exact congrArg (argW m c) (congrArg (ix3 0 k) (Fin.ext (by dsimp only; omega)))

theorem V12_qb (k : Fin 1024) (j : Fin 512) : (V (F := Ideal) m c main_v12 : S1024x3840.Idx → EReal) (ix2 k (⟨2304 + j.val, by omega⟩ : Fin 3840))
    = argW m c (ix3 0 k (⟨2120 + j.val, by omega⟩ : Fin 3656)) := by
  unfold V
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  exact congrArg (argW m c) (congrArg (ix3 0 k) (Fin.ext (by dsimp only; omega)))

theorem V12_kb (k : Fin 1024) (j : Fin 512) : (V (F := Ideal) m c main_v12 : S1024x3840.Idx → EReal) (ix2 k (⟨2816 + j.val, by omega⟩ : Fin 3840))
    = argW m c (ix3 0 k (⟨2632 + j.val, by omega⟩ : Fin 3656)) := by
  unfold V
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  exact congrArg (argW m c) (congrArg (ix3 0 k) (Fin.ext (by dsimp only; omega)))

theorem V12_vb (k : Fin 1024) (j : Fin 512) : (V (F := Ideal) m c main_v12 : S1024x3840.Idx → EReal) (ix2 k (⟨3328 + j.val, by omega⟩ : Fin 3840))
    = argW m c (ix3 0 k (⟨3144 + j.val, by omega⟩ : Fin 3656)) := by
  unfold V
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  after_reads_at
  exact congrArg (argW m c) (congrArg (ix3 0 k) (Fin.ext (by dsimp only; omega)))

theorem V12_wi (k : Fin 1024) (j : Fin 8) : (V (F := Ideal) m c main_v12 : S1024x3840.Idx → EReal) (ix2 k (⟨2176 + j.val, by omega⟩ : Fin 3840))
    = argW m c (ix3 0 k (⟨2112 + j.val, by omega⟩ : Fin 3656)) := by
  unfold V
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  refine (dif_pos (by omega)).trans ?_
  exact congrArg (argW m c) (congrArg (ix3 0 k) (Fin.ext (by dsimp only; omega)))

theorem V12_pad (k : Fin 1024) (j : Fin 120) : (V (F := Ideal) m c main_v12 : S1024x3840.Idx → EReal) (ix2 k (⟨2184 + j.val, by omega⟩ : Fin 3840)) = (0 : EReal) := by
  unfold V
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  refine (dif_neg (by omega)).trans ?_
  show (((0#32 : BitVec 32).toInt : ℝ) : EReal) = 0
  simp

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel

theorem t_lt (t : Fin cfg0.N) : t.val < 64 := t.isLt

theorem blk0 (t : Fin cfg0.N) (r : Fin 512) (l : Fin 1024) : (iblk (F := Ideal) m c 0 t : S512x1024.Idx → EReal) (ix2 r l)
    = (V (F := Ideal) m c main_v19 : S32768x1024.Idx → EReal) (ix2 (⟨512 * t.val + r.val, by have := t_lt t; omega⟩ : Fin 32768) l) := by
  refine congrArg (V (F := Ideal) m c main_v19 : S32768x1024.Idx → EReal) (funext fun a => Fin.ext ?_)
  blk_simp [index0]
  match a with
  | ⟨0, _⟩ => simp; try omega
  | ⟨1, _⟩ => simp
theorem blk1 (t : Fin cfg0.N) (y : S1x1024.Idx) : (iblk (F := Ideal) m c 1 t : S1x1024.Idx → EReal) y
    = (V (F := Ideal) m c main_v18 : S1x1024.Idx → EReal) y := by
  refine congrArg (V (F := Ideal) m c main_v18 : S1x1024.Idx → EReal) (funext fun a => Fin.ext ?_)
  blk_simp [index1]
  match a with
  | ⟨0, _⟩ => simp
  | ⟨1, _⟩ => simp
theorem blk2 (t : Fin cfg0.N) (y : S1024x3840.Idx) : (iblk (F := Ideal) m c 2 t : S1024x3840.Idx → EReal) y
    = (V (F := Ideal) m c main_v12 : S1024x3840.Idx → EReal) y := by
  refine congrArg (V (F := Ideal) m c main_v12 : S1024x3840.Idx → EReal) (funext fun a => Fin.ext ?_)
  blk_simp [index2]
  match a with
  | ⟨0, _⟩ => simp
  | ⟨1, _⟩ => simp
theorem blk3 (t : Fin cfg0.N) (y : S1x128.Idx) : (iblk (F := Ideal) m c 3 t : S1x128.Idx → EReal) y
    = (V (F := Ideal) m c main_v16 : S1x128.Idx → EReal) y := by
  refine congrArg (V (F := Ideal) m c main_v16 : S1x128.Idx → EReal) (funext fun a => Fin.ext ?_)
  blk_simp [index3]
  match a with
  | ⟨0, _⟩ => simp
  | ⟨1, _⟩ => simp

end Cert.Kernel2Ideal.Proj
-- ==== Proof.ProjMean.lean ====
/- The mean of a row that is written twice side by side is the row's own mean. -/
module

public import Idealize.ShloMosaic.PureOps.Ideal
public import Idealize.ShloMosaic.Lib.Pointwise

@[expose] public section

noncomputable section

namespace Cert.Kernel2Ideal.Proj

open Idealize.ShloMosaic

theorem c64 : Ideal.ofBits FTy.f32 0x42800000#32 = ((64 : ℝ) : EReal) := by
  simp [Ideal.ofBits, Ideal.ieee, -EReal.coe_mul]; norm_num
theorem c128 : Ideal.ofBits FTy.f32 0x43000000#32 = ((128 : ℝ) : EReal) := by
  simp [Ideal.ofBits, Ideal.ieee, -EReal.coe_mul]; norm_num
theorem eighth : Ideal.ofBits FTy.f32 0x3E000000#32 = ((1 / 8 : ℝ) : EReal) := by
  simp [Ideal.ofBits, Ideal.ieee, -EReal.coe_mul]; norm_num
theorem two : Ideal.ofBits FTy.f32 0x40000000#32 = ((2 : ℝ) : EReal) := by
  simp [Ideal.ofBits, Ideal.ieee, -EReal.coe_mul]; norm_num

theorem square_nonneg (x : EReal) : 0 ≤ x * x := by
  induction x with
  | bot => simp
  | top => simp
  | coe x => rw [← EReal.coe_mul]; exact_mod_cast mul_self_nonneg x

/-- Half of a sum of two equal terms, none of them negative, is either. -/
theorem twice_div (s : EReal) (h : 0 ≤ s) : Ideal.div (s + s) (Ideal.ofBits .f32 0x43000000#32) = Ideal.div s (Ideal.ofBits .f32 0x42800000#32) := by
  rw [c64, c128, Ideal.div_coe (by norm_num), Ideal.div_coe (by norm_num)]
  induction s with
  | bot => simp at h
  | top => rw [EReal.top_add_top, EReal.top_mul_coe_of_pos (by norm_num), EReal.top_mul_coe_of_pos (by norm_num)]
  | coe x => rw [← EReal.coe_add, ← EReal.coe_mul, ← EReal.coe_mul]; congr 1; ring

/-- The mean of the squares of a row of 128 entries whose halves are equal. -/
theorem mean_twice (f : Fin 128 → EReal) (u : Fin 64 → EReal) (h0 : ∀ i : Fin 64, f ⟨i.val, by omega⟩ = u i) (h1 : ∀ i : Fin 64, f ⟨64 + i.val, by omega⟩ = u i) :
    Ideal.div (∑ i : Fin 128, f i * f i) (Ideal.ofBits .f32 0x43000000#32) = Ideal.div (∑ i : Fin 64, u i * u i) (Ideal.ofBits .f32 0x42800000#32) := by
  have hs : (∑ i : Fin 128, f i * f i) = (∑ i : Fin 64, u i * u i) + ∑ i : Fin 64, u i * u i := by
    refine (Fin.sum_univ_add (a := 64) (b := 64) fun i => f i * f i).trans ?_
    refine congrArg₂ (· + ·) (Finset.sum_congr rfl fun i _ => ?_) (Finset.sum_congr rfl fun i _ => ?_)
    · exact congrArg₂ (· * ·) (h0 i) (h0 i)
    · exact congrArg₂ (· * ·) (h1 i) (h1 i)
  rw [hs]
  exact twice_div _ (Finset.sum_nonneg fun i _ => square_nonneg _)

/-- A multiplication by 1/8 and a division by log 2 are one multiplication. -/
theorem scale_log (z : EReal) : Ideal.div (z * Ideal.ofBits .f32 0x3E000000#32) (Ideal.log (Ideal.ofBits .f32 0x40000000#32)) = z * (((8 * (Real.log 2))⁻¹ : ℝ) : EReal) := by
  have hl : Ideal.log (((2 : ℝ) : ℝ) : EReal) = ((Real.log 2 : ℝ) : EReal) := by
    show (if (2 : ℝ) ≤ 0 then ⊥ else ((Real.log 2 : ℝ) : EReal)) = _
    rw [if_neg (by norm_num)]
  have h2 : Real.log 2 ≠ 0 := (Real.log_pos (by norm_num)).ne'
  rw [eighth, two, hl, Ideal.div_coe h2, mul_assoc, ← EReal.coe_mul]
  congr 2
  field_simp

end Cert.Kernel2Ideal.Proj
-- ==== Proof.ProjRef.lean ====
/- The projection's reference, read at an entry. -/
module

public import proofs.«01_k».proof.Proof.ProjBlock
public import proofs.«01_k».proof.Proof.ProjMean
public import proofs.«01_k».proof.Proof.Gen.Reference2Ideal.Run
public import Idealize.ShloMosaic.Lib.Claim
public import Idealize.ShloMosaic.Lib.StableHlo.ReadAt
public import Idealize.ShloMosaic.Lib.Pointwise

@[expose] public section

set_option maxRecDepth 16384

noncomputable section

namespace Cert.Reference2Ideal.Proj

open Cert.Reference2Ideal Cert.Reference2Ideal.Gen Cert.Reference2Ideal.Value Idealize.ShloMosaic Idealize.ShloMosaic.TcCoe Idealize.SL.Sem
open Cert.Kernel2Ideal.Proj (normed dotted)

variable (x : FVec Ideal S8x4096x1024 .f32) (g : FVec Ideal S1x1024 .f32) (w : FVec Ideal S1x1024x3656 .f32) (gk : FVec Ideal S1x64 .f32) (z : FVec Ideal S8x4096x3656 .f32)

/-- The normed input times the weights. -/
def zz : FVec Ideal S8x4096x3656 .f32 :=
  Host.dotGeneral dot_S8x4096x1024_S1024x3656_S8x4096x3656_2_0_01_1_n_n none (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))) (shapeCast _ w shapeCasts_S1x1024x3656_S1024x3656)

theorem zz_apply (b : Fin 8) (t : Fin 4096) (j : Fin 3656) :
    (zz x g w : S8x4096x3656.Idx → EReal) (ix3 b t j) = dotted (fun k => x (ix3 b t k)) (fun k => g (ix2 0 k)) (fun k => w (ix3 0 k j)) := by
  unfold zz dotted normed
  pointwise

/-- The keys and values of the first attention, side by side. -/
def rKva : FVec Ideal S32768x1024 .f32 :=
  shapeCast _ (concatenate S8x4096x2x512 2 [⟨S8x4096x1x512, (broadcastInDim S8x4096x1x512 ![0, 1, 3] bcast_S8x4096x512_S8x4096x1x512_0_1_3 (extractStridedSlice S8x4096x512 ![0, 0, 512] z slices_S8x4096x3656_S8x4096x512_0_0_512))⟩, ⟨S8x4096x1x512, (broadcastInDim S8x4096x1x512 ![0, 1, 3] bcast_S8x4096x512_S8x4096x1x512_0_1_3 (extractStridedSlice S8x4096x512 ![0, 0, 1024] z slices_S8x4096x3656_S8x4096x512_0_0_1024))⟩] concatenates_S8x4096x1x512_S8x4096x1x512_S8x4096x2x512_d2) shapeCasts_S8x4096x2x512_S32768x1024

theorem rKva_apply (y : Fin 32768) (j : Fin 1024) : (rKva z : S32768x1024.Idx → EReal) (ix2 y j) = z (ix3 (⟨y.val / 4096, by omega⟩ : Fin 8) (⟨y.val % 4096, by omega⟩ : Fin 4096) (⟨512 + j.val, by omega⟩ : Fin 3656)) := by
  unfold rKva
  pointwise
  by_cases h : j.val / 512 < 1
  · refine (dif_pos h).trans (congrArg z (congrArg (ix3 _ _) (Fin.ext ?_)))
    dsimp only; omega
  · refine (dif_neg h).trans (congrArg z (congrArg (ix3 _ _) (Fin.ext ?_)))
    dsimp only; omega

/-- The keys of the second attention. -/
def rKb : FVec Ideal S32768x512 .f32 :=
  shapeCast _ (extractStridedSlice S8x4096x512 ![0, 0, 2632] z slices_S8x4096x3656_S8x4096x512_0_0_2632) shapeCasts_S8x4096x512_S32768x512

theorem rKb_apply (y : Fin 32768) (j : Fin 512) :
    (rKb z : S32768x512.Idx → EReal) (ix2 y j) = z (ix3 (⟨y.val / 4096, by omega⟩ : Fin 8) (⟨y.val % 4096, by omega⟩ : Fin 4096) (⟨2632 + j.val, by omega⟩ : Fin 3656)) := by
  unfold rKb
  pointwise

/-- The values of the second attention. -/
def rVb : FVec Ideal S32768x512 .f32 :=
  shapeCast _ (extractStridedSlice S8x4096x512 ![0, 0, 3144] z slices_S8x4096x3656_S8x4096x512_0_0_3144) shapeCasts_S8x4096x512_S32768x512

theorem rVb_apply (y : Fin 32768) (j : Fin 512) :
    (rVb z : S32768x512.Idx → EReal) (ix2 y j) = z (ix3 (⟨y.val / 4096, by omega⟩ : Fin 8) (⟨y.val % 4096, by omega⟩ : Fin 4096) (⟨3144 + j.val, by omega⟩ : Fin 3656)) := by
  unfold rVb
  pointwise

/-- The queries of the first attention, scaled. -/
def rQa : FVec Ideal S32768x512 .bf16 :=
  truncf .bf16 (shapeCast _ (Host.divf (mulf (extractStridedSlice S8x4096x512 ![0, 0, 0] z slices_S8x4096x3656_S8x4096x512_0_0_0) (broadcastInDim S8x4096x512 ![] bcast_S_S8x4096x512 (constant S_ .f32 0x3E000000#32))) (broadcastInDim S8x4096x512 ![] bcast_S_S8x4096x512 (Host.log (constant S_ .f32 0x40000000#32)))) shapeCasts_S8x4096x512_S32768x512) bitsLt_bf16_f32

theorem rQa_apply (y : Fin 32768) (j : Fin 512) :
    (rQa z : S32768x512.Idx → EReal) (ix2 y j) = Ideal.div (z (ix3 (⟨y.val / 4096, by omega⟩ : Fin 8) (⟨y.val % 4096, by omega⟩ : Fin 4096) (⟨0 + j.val, by omega⟩ : Fin 3656)) * Ideal.ofBits .f32 0x3E000000#32) (Ideal.log (Ideal.ofBits .f32 0x40000000#32)) := by
  unfold rQa
  pointwise

/-- The queries of the second attention, scaled. -/
def rQb : FVec Ideal S32768x512 .bf16 :=
  truncf .bf16 (shapeCast _ (Host.divf (mulf (extractStridedSlice S8x4096x512 ![0, 0, 2120] z slices_S8x4096x3656_S8x4096x512_0_0_2120) (broadcastInDim S8x4096x512 ![] bcast_S_S8x4096x512 (constant S_ .f32 0x3E000000#32))) (broadcastInDim S8x4096x512 ![] bcast_S_S8x4096x512 (Host.log (constant S_ .f32 0x40000000#32)))) shapeCasts_S8x4096x512_S32768x512) bitsLt_bf16_f32

theorem rQb_apply (y : Fin 32768) (j : Fin 512) :
    (rQb z : S32768x512.Idx → EReal) (ix2 y j) = Ideal.div (z (ix3 (⟨y.val / 4096, by omega⟩ : Fin 8) (⟨y.val % 4096, by omega⟩ : Fin 4096) (⟨2120 + j.val, by omega⟩ : Fin 3656)) * Ideal.ofBits .f32 0x3E000000#32) (Ideal.log (Ideal.ofBits .f32 0x40000000#32)) := by
  unfold rQb
  pointwise

/-- The index queries, scaled. -/
def rQi : FVec Ideal S32768x512 .bf16 :=
  truncf .bf16 (shapeCast _ (mulf (extractStridedSlice S8x4096x512 ![0, 0, 1536] z slices_S8x4096x3656_S8x4096x512_0_0_1536) (broadcastInDim S8x4096x512 ![] bcast_S_S8x4096x512 (constant S_ .f32 0x3E000000#32))) shapeCasts_S8x4096x512_S32768x512) bitsLt_bf16_f32

theorem rQi_apply (y : Fin 32768) (j : Fin 512) :
    (rQi z : S32768x512.Idx → EReal) (ix2 y j) = z (ix3 (⟨y.val / 4096, by omega⟩ : Fin 8) (⟨y.val % 4096, by omega⟩ : Fin 4096) (⟨1536 + j.val, by omega⟩ : Fin 3656)) * Ideal.ofBits .f32 0x3E000000#32 := by
  unfold rQi
  pointwise

/-- The index weights, scaled and padded. -/
def rWi : FVec Ideal S32768x128 .f32 :=
  pad S32768x128 ![0, 0] ![0, 120] ![0, 0] (shapeCast _ (mulf (F := Ideal) (extractStridedSlice S8x4096x8 ![0, 0, 2112] z slices_S8x4096x3656_S8x4096x8_0_0_2112) (broadcastInDim S8x4096x8 ![] bcast_S_S8x4096x8 (constant S_ .f32 0x3EB504F3#32))) shapeCasts_S8x4096x8_S32768x8) (sitofp (F := Ideal) .f32 (constantI S_ 32 0#32)) pads_S32768x8_S32768x128_000_01200 h_S_

theorem rWi_lo (y : Fin 32768) (j : Fin 8) : (rWi z : S32768x128.Idx → EReal) (ix2 y (⟨j.val, by omega⟩ : Fin 128)) = z (ix3 (⟨y.val / 4096, by omega⟩ : Fin 8) (⟨y.val % 4096, by omega⟩ : Fin 4096) (⟨2112 + j.val, by omega⟩ : Fin 3656)) * Ideal.ofBits .f32 0x3EB504F3#32 := by
  unfold rWi
  pointwise

theorem rWi_hi (y : Fin 32768) (j : Fin 120) : (rWi z : S32768x128.Idx → EReal) (ix2 y (⟨8 + j.val, by omega⟩ : Fin 128)) = 0 := by
  unfold rWi
  pointwise
  show (((0#32 : BitVec 32).toInt : ℝ) : EReal) = 0
  simp

/-- The normed index key, twice side by side. -/
def rKi (z : FVec Ideal S8x4096x3656 .f32) (gk : FVec Ideal S1x64 .f32) : FVec Ideal S32768x128 .f32 :=
  shapeCast _ (concatenate S8x4096x128 2 [⟨S8x4096x64, (mulf (F := Ideal) (mulf (extractStridedSlice S8x4096x64 ![0, 0, 2048] z slices_S8x4096x3656_S8x4096x64_0_0_2048) (broadcastInDim S8x4096x64 ![0, 1, 2] bcast_S8x4096x1_S8x4096x64_0_1_2 (Host.rsqrt (addf (Host.divf (broadcastInDim S8x4096x1 ![0, 1] bcast_S8x4096_S8x4096x1_0_1 (Host.reduceAdd (mulf (extractStridedSlice S8x4096x64 ![0, 0, 2048] z slices_S8x4096x3656_S8x4096x64_0_0_2048) (extractStridedSlice S8x4096x64 ![0, 0, 2048] z slices_S8x4096x3656_S8x4096x64_0_0_2048)) (constant S_ .f32 0x00000000#32) reducesTo_S8x4096x64_S8x4096_d2 h_S_)) (broadcastInDim S8x4096x1 ![] bcast_S_S8x4096x1 (constant S_ .f32 0x42800000#32))) (broadcastInDim S8x4096x1 ![] bcast_S_S8x4096x1 (constant S_ .f32 0x358637BD#32)))))) (broadcastInDim S8x4096x64 ![0, 1, 2] bcast_S1x1x64_S8x4096x64_0_1_2 (broadcastInDim S1x1x64 ![2] bcast_S64_S1x1x64_2 (shapeCast _ gk shapeCasts_S1x64_S64))))⟩, ⟨S8x4096x64, (mulf (F := Ideal) (mulf (extractStridedSlice S8x4096x64 ![0, 0, 2048] z slices_S8x4096x3656_S8x4096x64_0_0_2048) (broadcastInDim S8x4096x64 ![0, 1, 2] bcast_S8x4096x1_S8x4096x64_0_1_2 (Host.rsqrt (addf (Host.divf (broadcastInDim S8x4096x1 ![0, 1] bcast_S8x4096_S8x4096x1_0_1 (Host.reduceAdd (mulf (extractStridedSlice S8x4096x64 ![0, 0, 2048] z slices_S8x4096x3656_S8x4096x64_0_0_2048) (extractStridedSlice S8x4096x64 ![0, 0, 2048] z slices_S8x4096x3656_S8x4096x64_0_0_2048)) (constant S_ .f32 0x00000000#32) reducesTo_S8x4096x64_S8x4096_d2 h_S_)) (broadcastInDim S8x4096x1 ![] bcast_S_S8x4096x1 (constant S_ .f32 0x42800000#32))) (broadcastInDim S8x4096x1 ![] bcast_S_S8x4096x1 (constant S_ .f32 0x358637BD#32)))))) (broadcastInDim S8x4096x64 ![0, 1, 2] bcast_S1x1x64_S8x4096x64_0_1_2 (broadcastInDim S1x1x64 ![2] bcast_S64_S1x1x64_2 (shapeCast _ gk shapeCasts_S1x64_S64))))⟩] concatenates_S8x4096x64_S8x4096x64_S8x4096x128_d2) shapeCasts_S8x4096x128_S32768x128

theorem rKi_lo (y : Fin 32768) (j : Fin 64) : (rKi z gk : S32768x128.Idx → EReal) (ix2 y (⟨j.val, by omega⟩ : Fin 128)) = z (ix3 (⟨y.val / 4096, by omega⟩ : Fin 8) (⟨y.val % 4096, by omega⟩ : Fin 4096) (⟨2048 + j.val, by omega⟩ : Fin 3656))
      * Ideal.rsqrt (Ideal.div (∑ i : Fin 64, z (ix3 (⟨y.val / 4096, by omega⟩ : Fin 8) (⟨y.val % 4096, by omega⟩ : Fin 4096) (⟨2048 + i.val, by omega⟩ : Fin 3656)) * z (ix3 (⟨y.val / 4096, by omega⟩ : Fin 8) (⟨y.val % 4096, by omega⟩ : Fin 4096) (⟨2048 + i.val, by omega⟩ : Fin 3656))) (Ideal.ofBits .f32 0x42800000#32) + Ideal.ofBits .f32 0x358637BD#32) * gk (ix2 0 j) := by
  unfold rKi
  pointwise

theorem rKi_hi (y : Fin 32768) (j : Fin 64) : (rKi z gk : S32768x128.Idx → EReal) (ix2 y (⟨64 + j.val, by omega⟩ : Fin 128)) = z (ix3 (⟨y.val / 4096, by omega⟩ : Fin 8) (⟨y.val % 4096, by omega⟩ : Fin 4096) (⟨2048 + j.val, by omega⟩ : Fin 3656))
      * Ideal.rsqrt (Ideal.div (∑ i : Fin 64, z (ix3 (⟨y.val / 4096, by omega⟩ : Fin 8) (⟨y.val % 4096, by omega⟩ : Fin 4096) (⟨2048 + i.val, by omega⟩ : Fin 3656)) * z (ix3 (⟨y.val / 4096, by omega⟩ : Fin 8) (⟨y.val % 4096, by omega⟩ : Fin 4096) (⟨2048 + i.val, by omega⟩ : Fin 3656))) (Ideal.ofBits .f32 0x42800000#32) + Ideal.ofBits .f32 0x358637BD#32) * gk (ix2 0 j) := by
  unfold rKi
  pointwise

end Cert.Reference2Ideal.Proj
-- ==== Proof.ProjMatch.lean ====
/- The projection's output arrays are the reference's results. -/
module

public import proofs.«01_k».proof.Proof.ProjHost
public import proofs.«01_k».proof.Proof.ProjRef

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Cert.Reference2Ideal.Proj (zz zz_apply rKva rKb rVb rQa rQb rQi rWi rKi rKva_apply rKb_apply rVb_apply rQa_apply rQb_apply rQi_apply rWi_lo rWi_hi rKi_lo rKi_hi)

variable (m : (ℓ : Loc nD τ sig) → Buf (Elt Ideal) ℓ) (c : Dev nD)

/-- The reference's projection of the kernel's arguments. -/
abbrev zm : Cert.Reference2Ideal.S8x4096x3656.Idx → EReal := zz (argX m c) (argG m c) (argW m c)

/-- Row `r` of the block of point `t`, among all rows. -/
abbrev row (t : Fin cfg0.N) (r : Fin 512) : Fin 32768 := ⟨512 * t.val + r.val, by have := t_lt t; omega⟩

/-- The reference's projection at a row and a column. -/
abbrev zAt (y : Fin 32768) (j : Fin 3656) : EReal := zm m c (ix3 (⟨y.val / 4096, by omega⟩ : Fin 8) (⟨y.val % 4096, by omega⟩ : Fin 4096) j)

/-- A row times a packed column is the reference's projection, at the column that the pack took it from. -/
theorem entry_eq (t : Fin cfg0.N) (r : Fin 512) (j : Fin 3840) (j' : Fin 3656)
    (h : ∀ k : Fin 1024, (V (F := Ideal) m c main_v12 : S1024x3840.Idx → EReal) (ix2 k j) = argW m c (ix3 0 k j')) :
    entry (iblk (F := Ideal) m c 0 t) (iblk (F := Ideal) m c 1 t) (iblk (F := Ideal) m c 2 t) r j = zAt m c (row t r) j' := by
  refine Eq.trans ?_ (zz_apply _ _ _ _ _ _).symm
  have hx : (fun k : Fin 1024 => (iblk (F := Ideal) m c 0 t : S512x1024.Idx → EReal) (ix2 r k))
      = fun k => argX m c (ix3 (⟨(row t r).val / 4096, by omega⟩ : Fin 8) (⟨(row t r).val % 4096, by omega⟩ : Fin 4096) k) :=
    funext fun k => (blk0 m c t r k).trans (V19_apply m c _ k)
  have hg : (fun k : Fin 1024 => (iblk (F := Ideal) m c 1 t : S1x1024.Idx → EReal) (ix2 0 k)) = fun k => argG m c (ix2 0 k) :=
    funext fun k => (blk1 m c t _).trans (V18_apply m c k)
  have hw : (fun k : Fin 1024 => (iblk (F := Ideal) m c 2 t : S1024x3840.Idx → EReal) (ix2 k j)) = fun k => argW m c (ix3 0 k j') :=
    funext fun k => (blk2 m c t _).trans (h k)
  exact congr (congr (congrArg dotted hx) hg) hw

/-- A row times a packed column of zeros. -/
theorem entry_zero (t : Fin cfg0.N) (r : Fin 512) (j : Fin 3840)
    (h : ∀ k : Fin 1024, (V (F := Ideal) m c main_v12 : S1024x3840.Idx → EReal) (ix2 k j) = (0 : EReal)) :
    entry (iblk (F := Ideal) m c 0 t) (iblk (F := Ideal) m c 1 t) (iblk (F := Ideal) m c 2 t) r j = 0 :=
  Finset.sum_eq_zero fun k _ => by
    have hk : (iblk (F := Ideal) m c 2 t : S1024x3840.Idx → EReal) (ix2 k j) = (0 : EReal) := (blk2 m c t _).trans (h k)
    exact (congrArg (normed _ _ k * ·) hk).trans (mul_zero _)

theorem index13 : ∀ t : Fin grid0.N, win0_13.index t = ![t.val, 0] := by decide +kernel

theorem after13 (t : Fin cfg0.N) (r : Fin 512) (j : Fin 512) :
    ((dats (F := Ideal) m 0 c).after 13 t : S512x512.Idx → EReal) (ix2 r j) = (rKb (zm m c) : S32768x512.Idx → EReal) (ix2 (row t r) j) := by
  refine ((congrFun (after0_13 m c t) _).trans (out13_apply _ _ _ _ r j)).trans ?_
  exact (entry_eq m c t r _ _ fun k => V12_kb m c k j).trans (rKb_apply _ _ _).symm

theorem array13 : ((dats (F := Ideal) m 0 c).arrAt 13 cfg0.N : S32768x512.Idx → EReal) = (rKb (zm m c) : S32768x512.Idx → EReal) := by
  refine (dats (F := Ideal) m 0 c).arrAt_eq_of_covers 13 (rKb (zm m c) : S32768x512.Idx → EReal) (by decide +kernel) fun t hf y => ?_
  have ht := t_lt t
  have hy0 : (y 0 : ℕ) < 512 := (y 0).isLt
  have hy1 : (y 1 : ℕ) < 512 := (y 1).isLt
  have ey : (y : S512x512.Idx) = ix2 (⟨(y 0 : ℕ), hy0⟩ : Fin 512) (⟨(y 1 : ℕ), hy1⟩ : Fin 512) := by
    funext a
    refine Fin.ext ?_
    fin_cases a
    · rfl
    · rfl
  have left : ((dats (F := Ideal) m 0 c).after 13 t : S512x512.Idx → EReal) y = _ := (congrArg ((dats (F := Ideal) m 0 c).after 13 t : S512x512.Idx → EReal) ey).trans (after13 m c t _ _)
  blk_simp
  refine left.trans (congrArg (rKb (zm m c) : S32768x512.Idx → EReal) (funext fun a => Fin.ext ?_))
  fin_cases a
  · blk_simp [index13]
    show 512 * t.val + (y 0 : ℕ) = t.val * 512 + (y 0 : ℕ)
    omega
  · blk_simp [index13]
    try rfl

theorem index14 : ∀ t : Fin grid0.N, win0_14.index t = ![t.val, 0] := by decide +kernel

theorem after14 (t : Fin cfg0.N) (r : Fin 512) (j : Fin 512) :
    ((dats (F := Ideal) m 0 c).after 14 t : S512x512.Idx → EReal) (ix2 r j) = (rVb (zm m c) : S32768x512.Idx → EReal) (ix2 (row t r) j) := by
  refine ((congrFun (after0_14 m c t) _).trans (out14_apply _ _ _ _ r j)).trans ?_
  exact (entry_eq m c t r _ _ fun k => V12_vb m c k j).trans (rVb_apply _ _ _).symm

theorem array14 : ((dats (F := Ideal) m 0 c).arrAt 14 cfg0.N : S32768x512.Idx → EReal) = (rVb (zm m c) : S32768x512.Idx → EReal) := by
  refine (dats (F := Ideal) m 0 c).arrAt_eq_of_covers 14 (rVb (zm m c) : S32768x512.Idx → EReal) (by decide +kernel) fun t hf y => ?_
  have ht := t_lt t
  have hy0 : (y 0 : ℕ) < 512 := (y 0).isLt
  have hy1 : (y 1 : ℕ) < 512 := (y 1).isLt
  have ey : (y : S512x512.Idx) = ix2 (⟨(y 0 : ℕ), hy0⟩ : Fin 512) (⟨(y 1 : ℕ), hy1⟩ : Fin 512) := by
    funext a
    refine Fin.ext ?_
    fin_cases a
    · rfl
    · rfl
  have left : ((dats (F := Ideal) m 0 c).after 14 t : S512x512.Idx → EReal) y = _ := (congrArg ((dats (F := Ideal) m 0 c).after 14 t : S512x512.Idx → EReal) ey).trans (after14 m c t _ _)
  blk_simp
  refine left.trans (congrArg (rVb (zm m c) : S32768x512.Idx → EReal) (funext fun a => Fin.ext ?_))
  fin_cases a
  · blk_simp [index14]
    show 512 * t.val + (y 0 : ℕ) = t.val * 512 + (y 0 : ℕ)
    omega
  · blk_simp [index14]
    try rfl

theorem index8 : ∀ t : Fin grid0.N, win0_8.index t = ![t.val, 0] := by decide +kernel

theorem after8 (t : Fin cfg0.N) (r : Fin 512) (j : Fin 512) :
    ((dats (F := Ideal) m 0 c).after 8 t : S512x512.Idx → EReal) (ix2 r j) = (rQi (zm m c) : S32768x512.Idx → EReal) (ix2 (row t r) j) := by
  refine ((congrFun (after0_8 m c t) _).trans (out8_apply _ _ _ _ r j)).trans ?_
  exact (congrArg (· * _) (entry_eq m c t r _ _ fun k => V12_qi m c k j)).trans (rQi_apply _ _ _).symm

theorem array8 : ((dats (F := Ideal) m 0 c).arrAt 8 cfg0.N : S32768x512.Idx → EReal) = (rQi (zm m c) : S32768x512.Idx → EReal) := by
  refine (dats (F := Ideal) m 0 c).arrAt_eq_of_covers 8 (rQi (zm m c) : S32768x512.Idx → EReal) (by decide +kernel) fun t hf y => ?_
  have ht := t_lt t
  have hy0 : (y 0 : ℕ) < 512 := (y 0).isLt
  have hy1 : (y 1 : ℕ) < 512 := (y 1).isLt
  have ey : (y : S512x512.Idx) = ix2 (⟨(y 0 : ℕ), hy0⟩ : Fin 512) (⟨(y 1 : ℕ), hy1⟩ : Fin 512) := by
    funext a
    refine Fin.ext ?_
    fin_cases a
    · rfl
    · rfl
  have left : ((dats (F := Ideal) m 0 c).after 8 t : S512x512.Idx → EReal) y = _ := (congrArg ((dats (F := Ideal) m 0 c).after 8 t : S512x512.Idx → EReal) ey).trans (after8 m c t _ _)
  blk_simp
  refine left.trans (congrArg (rQi (zm m c) : S32768x512.Idx → EReal) (funext fun a => Fin.ext ?_))
  fin_cases a
  · blk_simp [index8]
    show 512 * t.val + (y 0 : ℕ) = t.val * 512 + (y 0 : ℕ)
    omega
  · blk_simp [index8]
    try rfl

theorem index4 : ∀ t : Fin grid0.N, win0_4.index t = ![t.val, 0] := by decide +kernel

theorem after4 (t : Fin cfg0.N) (r : Fin 512) (j : Fin 512) :
    ((dats (F := Ideal) m 0 c).after 4 t : S512x512.Idx → EReal) (ix2 r j) = (rQa (zm m c) : S32768x512.Idx → EReal) (ix2 (row t r) j) := by
  refine ((congrFun (after0_4 m c t) _).trans (out4_apply _ _ _ _ r j)).trans ?_
  have hj : (⟨j.val, by omega⟩ : Fin 3840) = ⟨0 + j.val, by omega⟩ := Fin.ext (Nat.zero_add _).symm
  exact ((congrArg (· * _) (entry_eq m c t r _ _ fun k => V12_qa m c k j)).trans (scale_log _).symm).trans (rQa_apply _ _ _).symm

theorem array4 : ((dats (F := Ideal) m 0 c).arrAt 4 cfg0.N : S32768x512.Idx → EReal) = (rQa (zm m c) : S32768x512.Idx → EReal) := by
  refine (dats (F := Ideal) m 0 c).arrAt_eq_of_covers 4 (rQa (zm m c) : S32768x512.Idx → EReal) (by decide +kernel) fun t hf y => ?_
  have ht := t_lt t
  have hy0 : (y 0 : ℕ) < 512 := (y 0).isLt
  have hy1 : (y 1 : ℕ) < 512 := (y 1).isLt
  have ey : (y : S512x512.Idx) = ix2 (⟨(y 0 : ℕ), hy0⟩ : Fin 512) (⟨(y 1 : ℕ), hy1⟩ : Fin 512) := by
    funext a
    refine Fin.ext ?_
    fin_cases a
    · rfl
    · rfl
  have left : ((dats (F := Ideal) m 0 c).after 4 t : S512x512.Idx → EReal) y = _ := (congrArg ((dats (F := Ideal) m 0 c).after 4 t : S512x512.Idx → EReal) ey).trans (after4 m c t _ _)
  blk_simp
  refine left.trans (congrArg (rQa (zm m c) : S32768x512.Idx → EReal) (funext fun a => Fin.ext ?_))
  fin_cases a
  · blk_simp [index4]
    show 512 * t.val + (y 0 : ℕ) = t.val * 512 + (y 0 : ℕ)
    omega
  · blk_simp [index4]
    try rfl

theorem index12 : ∀ t : Fin grid0.N, win0_12.index t = ![t.val, 0] := by decide +kernel

theorem after12 (t : Fin cfg0.N) (r : Fin 512) (j : Fin 512) :
    ((dats (F := Ideal) m 0 c).after 12 t : S512x512.Idx → EReal) (ix2 r j) = (rQb (zm m c) : S32768x512.Idx → EReal) (ix2 (row t r) j) := by
  refine ((congrFun (after0_12 m c t) _).trans (out12_apply _ _ _ _ r j)).trans ?_
  exact ((congrArg (· * _) (entry_eq m c t r _ _ fun k => V12_qb m c k j)).trans (scale_log _).symm).trans (rQb_apply _ _ _).symm

theorem array12 : ((dats (F := Ideal) m 0 c).arrAt 12 cfg0.N : S32768x512.Idx → EReal) = (rQb (zm m c) : S32768x512.Idx → EReal) := by
  refine (dats (F := Ideal) m 0 c).arrAt_eq_of_covers 12 (rQb (zm m c) : S32768x512.Idx → EReal) (by decide +kernel) fun t hf y => ?_
  have ht := t_lt t
  have hy0 : (y 0 : ℕ) < 512 := (y 0).isLt
  have hy1 : (y 1 : ℕ) < 512 := (y 1).isLt
  have ey : (y : S512x512.Idx) = ix2 (⟨(y 0 : ℕ), hy0⟩ : Fin 512) (⟨(y 1 : ℕ), hy1⟩ : Fin 512) := by
    funext a
    refine Fin.ext ?_
    fin_cases a
    · rfl
    · rfl
  have left : ((dats (F := Ideal) m 0 c).after 12 t : S512x512.Idx → EReal) y = _ := (congrArg ((dats (F := Ideal) m 0 c).after 12 t : S512x512.Idx → EReal) ey).trans (after12 m c t _ _)
  blk_simp
  refine left.trans (congrArg (rQb (zm m c) : S32768x512.Idx → EReal) (funext fun a => Fin.ext ?_))
  fin_cases a
  · blk_simp [index12]
    show 512 * t.val + (y 0 : ℕ) = t.val * 512 + (y 0 : ℕ)
    omega
  · blk_simp [index12]
    try rfl

theorem index5 : ∀ t : Fin grid0.N, win0_5.index t = ![t.val, 0] := by decide +kernel

theorem after5 (t : Fin cfg0.N) (r : Fin 512) (j : Fin 1024) :
    ((dats (F := Ideal) m 0 c).after 5 t : S512x1024.Idx → EReal) (ix2 r j) = (rKva (zm m c) : S32768x1024.Idx → EReal) (ix2 (row t r) j) := by
  refine ((congrFun (after0_5 m c t) _).trans (out5_apply _ _ _ _ r j)).trans ?_
  by_cases h : j.val < 512
  · exact (entry_eq m c t r _ _ fun k => V12_kv0 m c k ⟨j.val, h⟩).trans (rKva_apply _ _ _).symm
  · have h1 : (⟨512 + j.val, by omega⟩ : Fin 3840) = ⟨1024 + (j.val - 512), by omega⟩ := Fin.ext (by dsimp only; omega)
    have h2 : (⟨512 + j.val, by omega⟩ : Fin 3656) = ⟨1024 + (j.val - 512), by omega⟩ := Fin.ext (by dsimp only; omega)
    refine Eq.trans ?_ (rKva_apply _ _ _).symm
    refine entry_eq m c t r _ _ fun k => ?_
    rw [h1, h2]
    exact V12_kv1 m c k ⟨j.val - 512, by omega⟩

theorem array5 : ((dats (F := Ideal) m 0 c).arrAt 5 cfg0.N : S32768x1024.Idx → EReal) = (rKva (zm m c) : S32768x1024.Idx → EReal) := by
  refine (dats (F := Ideal) m 0 c).arrAt_eq_of_covers 5 (rKva (zm m c) : S32768x1024.Idx → EReal) (by decide +kernel) fun t hf y => ?_
  have ht := t_lt t
  have hy0 : (y 0 : ℕ) < 512 := (y 0).isLt
  have hy1 : (y 1 : ℕ) < 1024 := (y 1).isLt
  have ey : (y : S512x1024.Idx) = ix2 (⟨(y 0 : ℕ), hy0⟩ : Fin 512) (⟨(y 1 : ℕ), hy1⟩ : Fin 1024) := by
    funext a
    refine Fin.ext ?_
    fin_cases a
    · rfl
    · rfl
  have left : ((dats (F := Ideal) m 0 c).after 5 t : S512x1024.Idx → EReal) y = _ := (congrArg ((dats (F := Ideal) m 0 c).after 5 t : S512x1024.Idx → EReal) ey).trans (after5 m c t _ _)
  blk_simp
  refine left.trans (congrArg (rKva (zm m c) : S32768x1024.Idx → EReal) (funext fun a => Fin.ext ?_))
  fin_cases a
  · blk_simp [index5]
    show 512 * t.val + (y 0 : ℕ) = t.val * 512 + (y 0 : ℕ)
    omega
  · blk_simp [index5]
    try rfl

theorem index11 : ∀ t : Fin grid0.N, win0_11.index t = ![t.val, 0] := by decide +kernel

theorem after11 (t : Fin cfg0.N) (r : Fin 512) (j : Fin 128) :
    ((dats (F := Ideal) m 0 c).after 11 t : S512x128.Idx → EReal) (ix2 r j) = (rWi (zm m c) : S32768x128.Idx → EReal) (ix2 (row t r) j) := by
  refine ((congrFun (after0_11 m c t) _).trans (out11_apply _ _ _ _ r j)).trans ?_
  by_cases h : j.val < 8
  · exact (congrArg (· * _) (entry_eq m c t r _ _ fun k => V12_wi m c k ⟨j.val, h⟩)).trans (rWi_lo _ _ ⟨j.val, h⟩).symm
  · have h1 : j = (⟨8 + (j.val - 8), by omega⟩ : Fin 128) := Fin.ext (by dsimp only; omega)
    have h2 : (⟨2176 + j.val, by omega⟩ : Fin 3840) = ⟨2184 + (j.val - 8), by omega⟩ := Fin.ext (by dsimp only; omega)
    have h3 := rWi_hi (zm m c) (row t r) ⟨j.val - 8, by omega⟩
    rw [← h1] at h3
    refine Eq.trans ?_ h3.symm
    rw [h2, entry_zero m c t r _ fun k => V12_pad m c k ⟨j.val - 8, by omega⟩, zero_mul]

theorem array11 : ((dats (F := Ideal) m 0 c).arrAt 11 cfg0.N : S32768x128.Idx → EReal) = (rWi (zm m c) : S32768x128.Idx → EReal) := by
  refine (dats (F := Ideal) m 0 c).arrAt_eq_of_covers 11 (rWi (zm m c) : S32768x128.Idx → EReal) (by decide +kernel) fun t hf y => ?_
  have ht := t_lt t
  have hy0 : (y 0 : ℕ) < 512 := (y 0).isLt
  have hy1 : (y 1 : ℕ) < 128 := (y 1).isLt
  have ey : (y : S512x128.Idx) = ix2 (⟨(y 0 : ℕ), hy0⟩ : Fin 512) (⟨(y 1 : ℕ), hy1⟩ : Fin 128) := by
    funext a
    refine Fin.ext ?_
    fin_cases a
    · rfl
    · rfl
  have left : ((dats (F := Ideal) m 0 c).after 11 t : S512x128.Idx → EReal) y = _ := (congrArg ((dats (F := Ideal) m 0 c).after 11 t : S512x128.Idx → EReal) ey).trans (after11 m c t _ _)
  blk_simp
  refine left.trans (congrArg (rWi (zm m c) : S32768x128.Idx → EReal) (funext fun a => Fin.ext ?_))
  fin_cases a
  · blk_simp [index11]
    show 512 * t.val + (y 0 : ℕ) = t.val * 512 + (y 0 : ℕ)
    omega
  · blk_simp [index11]
    try rfl

theorem index9 : ∀ t : Fin grid0.N, win0_9.index t = ![t.val, 0] := by decide +kernel

theorem after9 (t : Fin cfg0.N) (r : Fin 512) (j : Fin 128) :
    ((dats (F := Ideal) m 0 c).after 9 t : S512x128.Idx → EReal) (ix2 r j) = (rKi (zm m c) (argK m c) : S32768x128.Idx → EReal) (ix2 (row t r) j) := by
  refine ((congrFun (after0_9 m c t) _).trans (out9_apply _ _ _ _ r j)).trans ?_
  have e0 : ∀ i : Fin 64, entry (iblk (F := Ideal) m c 0 t) (iblk (F := Ideal) m c 1 t) (iblk (F := Ideal) m c 2 t) r ⟨2048 + i.val, by omega⟩
      = zAt m c (row t r) ⟨2048 + i.val, by omega⟩ := fun i => entry_eq m c t r _ _ fun k => V12_ki0 m c k i
  have e1 : ∀ i : Fin 64, entry (iblk (F := Ideal) m c 0 t) (iblk (F := Ideal) m c 1 t) (iblk (F := Ideal) m c 2 t) r ⟨2048 + (64 + i.val), by omega⟩
      = zAt m c (row t r) ⟨2048 + i.val, by omega⟩ := fun i => by
    have h1 : (⟨2048 + (64 + i.val), by omega⟩ : Fin 3840) = ⟨2112 + i.val, by omega⟩ := Fin.ext (by dsimp only; omega)
    rw [h1]
    exact entry_eq m c t r _ _ fun k => V12_ki1 m c k i
  have hm := mean_twice (fun i : Fin 128 => entry (iblk (F := Ideal) m c 0 t) (iblk (F := Ideal) m c 1 t) (iblk (F := Ideal) m c 2 t) r ⟨2048 + i.val, by omega⟩) _ e0 e1
  by_cases h : j.val < 64
  · refine Eq.trans ?_ (rKi_lo _ _ _ ⟨j.val, h⟩).symm
    exact congrArg₂ (· * ·) (congrArg₂ (· * ·) (e0 ⟨j.val, h⟩) (congrArg (fun u => Ideal.rsqrt (u + Ideal.ofBits .f32 0x358637BD#32)) hm))
      ((blk3 m c t _).trans (V16_lo m c ⟨j.val, h⟩))
  · have h1 : j = (⟨64 + (j.val - 64), by omega⟩ : Fin 128) := Fin.ext (by dsimp only; omega)
    rw [h1]
    refine Eq.trans ?_ (rKi_hi _ _ _ ⟨j.val - 64, by omega⟩).symm
    exact congrArg₂ (· * ·) (congrArg₂ (· * ·) (e1 ⟨j.val - 64, by omega⟩) (congrArg (fun u => Ideal.rsqrt (u + Ideal.ofBits .f32 0x358637BD#32)) hm))
      ((blk3 m c t _).trans (V16_hi m c ⟨j.val - 64, by omega⟩))

theorem array9 : ((dats (F := Ideal) m 0 c).arrAt 9 cfg0.N : S32768x128.Idx → EReal) = (rKi (zm m c) (argK m c) : S32768x128.Idx → EReal) := by
  refine (dats (F := Ideal) m 0 c).arrAt_eq_of_covers 9 (rKi (zm m c) (argK m c) : S32768x128.Idx → EReal) (by decide +kernel) fun t hf y => ?_
  have ht := t_lt t
  have hy0 : (y 0 : ℕ) < 512 := (y 0).isLt
  have hy1 : (y 1 : ℕ) < 128 := (y 1).isLt
  have ey : (y : S512x128.Idx) = ix2 (⟨(y 0 : ℕ), hy0⟩ : Fin 512) (⟨(y 1 : ℕ), hy1⟩ : Fin 128) := by
    funext a
    refine Fin.ext ?_
    fin_cases a
    · rfl
    · rfl
  have left : ((dats (F := Ideal) m 0 c).after 9 t : S512x128.Idx → EReal) y = _ := (congrArg ((dats (F := Ideal) m 0 c).after 9 t : S512x128.Idx → EReal) ey).trans (after9 m c t _ _)
  blk_simp
  refine left.trans (congrArg (rKi (zm m c) (argK m c) : S32768x128.Idx → EReal) (funext fun a => Fin.ext ?_))
  fin_cases a
  · blk_simp [index9]
    show 512 * t.val + (y 0 : ℕ) = t.val * 512 + (y 0 : ℕ)
    omega
  · blk_simp [index9]
    try rfl

end Cert.Kernel2Ideal.Proj
-- ==== Proof.ProjAlgebra.lean ====
/- The projection's value claim: the second kernel's results are the second reference's, with no precondition. -/
module

public import proofs.«01_k».proof.Defs
public import proofs.«01_k».proof.Proof.ProjMatch
public import proofs.«01_k».proof.Proof.Gen.Kernel2Ideal.Value
public import proofs.«01_k».proof.Proof.Gen.Reference2Ideal.Run

@[expose] public section

set_option maxRecDepth 16384

noncomputable section

namespace Cert.Proof

open Idealize.ShloMosaic Idealize.ShloMosaic.TcCoe Idealize.SL.Sem
open Cert.Kernel2Ideal.Proj Cert.Reference2Ideal.Proj

/-- The reference's index key, as a term of its projection. -/
theorem key2_eq (m' : (ℓ : Loc Cert.Reference2Ideal.nD Cert.Reference2Ideal.τ Cert.Reference2Ideal.sig) → Buf (Elt Ideal) ℓ) (c : Dev Cert.Reference2Ideal.nD) :
    (Cert.Reference2Ideal.Value.res_main_v45 (F := Ideal) m' c : Cert.Reference2Ideal.S32768x128.Idx → EReal)
      = rKi (zz (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2)))
        (m' ((c.tc : Thread Cert.Reference2Ideal.nD Cert.Reference2Ideal.τ).loc Cert.Reference2Ideal.main_arg3)) := by
  unfold Cert.Reference2Ideal.Value.res_main_v45 rKi zz
  rfl

set_option maxHeartbeats 4000000 in
/-- The projection's value claim. -/
theorem algebraic2 : Cert.algebraic_Kernel2Ideal_Reference2Ideal := by
  intro m g m' g' hpre hagree
  refine ⟨fun c => (Cert.Kernel2Ideal.Gen.dats (F := Ideal) m 0 c).arrAt 5 Cert.Kernel2Ideal.cfg0.N,
    fun c => (Cert.Kernel2Ideal.Gen.dats (F := Ideal) m 0 c).arrAt 9 Cert.Kernel2Ideal.cfg0.N,
    fun c => (Cert.Kernel2Ideal.Gen.dats (F := Ideal) m 0 c).arrAt 13 Cert.Kernel2Ideal.cfg0.N,
    fun c => (Cert.Kernel2Ideal.Gen.dats (F := Ideal) m 0 c).arrAt 14 Cert.Kernel2Ideal.cfg0.N,
    fun c => (Cert.Kernel2Ideal.Gen.dats (F := Ideal) m 0 c).arrAt 4 Cert.Kernel2Ideal.cfg0.N,
    fun c => (Cert.Kernel2Ideal.Gen.dats (F := Ideal) m 0 c).arrAt 8 Cert.Kernel2Ideal.cfg0.N,
    fun c => (Cert.Kernel2Ideal.Gen.dats (F := Ideal) m 0 c).arrAt 12 Cert.Kernel2Ideal.cfg0.N,
    fun c => (Cert.Kernel2Ideal.Gen.dats (F := Ideal) m 0 c).arrAt 11 Cert.Kernel2Ideal.cfg0.N, ?_, ?_⟩
  · refine (θ_run Cert.Kernel2Ideal.defs _ _).mono (fun r h c => ?_) (Cert.Kernel2Ideal.Value.run_blocks (F := Ideal) m g)
    obtain ⟨h4, h5, _, _, h8, h9, _, h11, h12, h13, h14, _, _, hargs⟩ := h c
    exact ⟨h5, h9, h13, h14, h4, h8, h12, h11, hargs⟩
  · refine (θ_run Cert.Reference2Ideal.defs _ _).mono (fun r h c => ?_) (Cert.Reference2Ideal.Value.run (F := Ideal) m' g')
    obtain ⟨h0, h1, h2, h3, h4, h5, h6, h7, hargs⟩ := h c
    obtain ⟨a0, a1, a2, a3⟩ := hagree c
    have ez : (zz (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2)) : Cert.Reference2Ideal.S8x4096x3656.Idx → EReal) = zm m c :=
      congr (congr (congrArg zz a0) a1) a2
    refine ⟨h0.trans ?_, h1.trans ?_, h2.trans ?_, h3.trans ?_, h4.trans ?_, h5.trans ?_, h6.trans ?_, h7.trans ?_, hargs⟩
    · exact (congrArg rKva ez).trans (array5 m c).symm
    · exact (key2_eq m' c).trans <| (congrArg₂ rKi ez a3).trans (array9 m c).symm
    · exact (congrArg rKb ez).trans (array13 m c).symm
    · exact (congrArg rVb ez).trans (array14 m c).symm
    · exact (congrArg rQa ez).trans (array4 m c).symm
    · exact (congrArg rQi ez).trans (array8 m c).symm
    · exact (congrArg rQb ez).trans (array12 m c).symm
    · exact (congrArg rWi ez).trans (array11 m c).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Algebra
public import proofs.«01_k».proof.Proof.ProjAlgebra
public import Idealize.ShloMosaic.Adequacy
public import Idealize.ShloMosaic.Init

@[expose] public section

noncomputable section

namespace Cert.Proof

open Idealize.ShloMosaic Idealize.SL.Sem Cert.Kernel

/-- Each constant's pattern and the number it is read as. -/
theorem preserves : Cert.preserves_Kernel_KernelIdeal :=
  ⟨IdealRules.named_const.statement Cert.KernelIdeal.κ "scale_log2e" .f32 0x3E38AA3B#32 (((8 * (Real.log 2))⁻¹ : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- The reference runs and keeps its arguments; it declares no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The projection's constant, its pattern and the number it is read as. -/
theorem preserves2 : Cert.preserves_Kernel2_Kernel2Ideal :=
  IdealRules.named_const.statement Cert.Kernel2Ideal.κ "scale_log2e" .f32 0x3E38AA3B#32 (((8 * (Real.log 2))⁻¹ : ℝ) : EReal) rfl

/-- The projection's reference runs and keeps its arguments; it declares no semaphore. -/
theorem frame_ri2 : Cert.quiescent_Reference2Ideal := fun m g _ =>
  (θ_run Cert.Reference2Ideal.defs _ _).mono (fun r h => ⟨fun c => (h c).2.2.2.2.2.2.2.2, sem_eq_zero_of_no_sems (by decide) r.2⟩)
    (Cert.Reference2Ideal.Value.run (F := Ideal) m g)

/-- All the claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Pre_finite_logits.Diff.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    fun m ρ _ => Cert.Kernel2.Gen.frame m ρ, fun m ρ _ => Cert.Kernel2Ideal.Gen.frame m ρ, frame_ri2,
    preserves, algebraic, preserves2, algebraic2⟩

end Cert.Proof

end
